-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S2048x14336 : Shape := ⟨2, ![2048, 14336]⟩
abbrev S16x256x2 : Shape := ⟨3, ![16, 256, 2]⟩
abbrev S16 : Shape := ⟨1, ![16]⟩
abbrev S14336 : Shape := ⟨1, ![14336]⟩
abbrev S16x2x256 : Shape := ⟨3, ![16, 2, 256]⟩
abbrev S16x2x2x1x128 : Shape := ⟨5, ![16, 2, 2, 1, 128]⟩
abbrev S16x2x2x32x128 : Shape := ⟨5, ![16, 2, 2, 32, 128]⟩
abbrev S16x2x8x32x1 : Shape := ⟨5, ![16, 2, 8, 32, 1]⟩
abbrev S16x2x8x32x128 : Shape := ⟨5, ![16, 2, 8, 32, 128]⟩
abbrev S1x16 : Shape := ⟨2, ![1, 16]⟩
abbrev S128x4096 : Shape := ⟨2, ![128, 4096]⟩
abbrev S1x14336 : Shape := ⟨2, ![1, 14336]⟩
abbrev S128x14336 : Shape := ⟨2, ![128, 14336]⟩
abbrev S1x128 : Shape := ⟨2, ![1, 128]⟩
abbrev S2048x1024 : Shape := ⟨2, ![2048, 1024]⟩
abbrev S1x1024 : Shape := ⟨2, ![1, 1024]⟩
abbrev S128x1024 : Shape := ⟨2, ![128, 1024]⟩
abbrev S16x128x256 : Shape := ⟨3, ![16, 128, 256]⟩
abbrev S128x128 : Shape := ⟨2, ![128, 128]⟩
abbrev S128 : Shape := ⟨1, ![128]⟩
abbrev S128x1 : Shape := ⟨2, ![128, 1]⟩
abbrev S32x128 : Shape := ⟨2, ![32, 128]⟩
abbrev S32x128x1 : Shape := ⟨3, ![32, 128, 1]⟩
abbrev S1x32x128 : Shape := ⟨3, ![1, 32, 128]⟩
abbrev S128x256 : Shape := ⟨2, ![128, 256]⟩
abbrev S1x1 : Shape := ⟨2, ![1, 1]⟩
abbrev S1x1x1x32x128 : Shape := ⟨5, ![1, 1, 1, 32, 128]⟩
abbrev S256x128 : Shape := ⟨2, ![256, 128]⟩
abbrev S256x256 : Shape := ⟨2, ![256, 256]⟩
abbrev S1x128x256 : Shape := ⟨3, ![1, 128, 256]⟩
abbrev S1x256 : Shape := ⟨2, ![1, 256]⟩

abbrev nBuf : Space → Nat
  | .hbm => 18
  | .vmem => 13
  | .smem => 1
  | _ => 0

abbrev bufTy : (tb : Table) → Fin (tcTables nBuf tb) → BufTy
  | .hbm, ⟨0, _⟩ => ⟨S1x128x4096, .bf16⟩
  | .hbm, ⟨1, _⟩ => ⟨S2048x14336, .i8⟩
  | .hbm, ⟨2, _⟩ => ⟨S16x256x2, .i8⟩
  | .hbm, ⟨3, _⟩ => ⟨S16, .bf16⟩
  | .hbm, ⟨4, _⟩ => ⟨S14336, .f32⟩
  | .hbm, ⟨5, _⟩ => ⟨S2048x14336, .i8⟩
  | .hbm, ⟨6, _⟩ => ⟨S16x2x256, .i8⟩
  | .hbm, ⟨7, _⟩ => ⟨S16x2x2x1x128, .i8⟩
  | .hbm, ⟨8, _⟩ => ⟨S16x2x2x32x128, .i8⟩
  | .hbm, ⟨9, _⟩ => ⟨S16x2x8x32x1, .i8⟩
  | .hbm, ⟨10, _⟩ => ⟨S16x2x8x32x128, .i8⟩
  | .hbm, ⟨11, _⟩ => ⟨S16, .f32⟩
  | .hbm, ⟨12, _⟩ => ⟨S1x16, .f32⟩
  | .hbm, ⟨13, _⟩ => ⟨S128x4096, .bf16⟩
  | .hbm, ⟨14, _⟩ => ⟨S1x14336, .f32⟩
  | .hbm, ⟨15, _⟩ => ⟨S128x14336, .bf16⟩
  | .hbm, ⟨16, _⟩ => ⟨S128x4096, .i8⟩
  | .hbm, ⟨17, _⟩ => ⟨S1x128, .f32⟩
  | .local _ .vmem, ⟨0, _⟩ => ⟨S128x4096, .bf16⟩
  | .local _ .vmem, ⟨1, _⟩ => ⟨S2048x1024, .i8⟩
  | .local _ .vmem, ⟨2, _⟩ => ⟨S2048x1024, .i8⟩
  | .local _ .vmem, ⟨3, _⟩ => ⟨S16x2x2x32x128, .i8⟩
  | .local _ .vmem, ⟨4, _⟩ => ⟨S16x2x8x32x128, .i8⟩
  | .local _ .vmem, ⟨5, _⟩ => ⟨S1x1024, .f32⟩
  | .local _ .vmem, ⟨6, _⟩ => ⟨S1x1024, .f32⟩
  | .local _ .vmem, ⟨7, _⟩ => ⟨S128x1024, .bf16⟩
  | .local _ .vmem, ⟨8, _⟩ => ⟨S128x1024, .bf16⟩
  | .local _ .vmem, ⟨9, _⟩ => ⟨S128x4096, .i8⟩
  | .local _ .vmem, ⟨10, _⟩ => ⟨S1x128, .f32⟩
  | .local _ .vmem, ⟨11, _⟩ => ⟨S16x128x256, .bf16⟩
  | .local _ .vmem, ⟨12, _⟩ => ⟨S128x128, .f32⟩
  | .local _ .smem, ⟨0, _⟩ => ⟨S1x16, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off1 (k0_t1 : Fin k0_t1_loop.trips) : Fin 2 → Nat :=
  let c0_38 : Index := 0#32
  let c0_i32_1 : BitVec 32 := 0#32
  let c1_i32 : BitVec 32 := 1#32
  let arg12 : BitVec 32 := Scf.iv c0_i32_1 c1_i32 k0_t1
  let v51 : Index := Scalar.indexCast arg12
  ![0, v51.toNat]
def k0_off2 (k0_t1 : Fin k0_t1_loop.trips) (c0_i32_39 : BitVec 32) : Fin 2 → Nat :=
  let c0_i32_1 : BitVec 32 := 0#32
  let c1_i32 : BitVec 32 := 1#32
  let arg12 : BitVec 32 := Scf.iv c0_i32_1 c1_i32 k0_t1
  let c128_i32 : BitVec 32 := 128#32
  let v54 : BitVec 32 := Scalar.muli arg12 c128_i32
  let v55 : BitVec 32 := Scalar.addi v54 c0_i32_39
  let v56 : Index := Scalar.indexCast v55
  let c0_40 : Index := 0#32
  ![v56.toNat, 0]
def k0_off3 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v65 : Index := Scalar.indexCast arg12
  let c0_41 : Index := 0#32
  let c0_42 : Index := 0#32
  let c0_43 : Index := 0#32
  let c0_44 : Index := 0#32
  ![v65.toNat, 0, 0, 0, 0]
def k0_off4 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v74 : Index := Scalar.indexCast arg12
  let c0_45 : Index := 0#32
  let c1 : Index := 1#32
  let c0_46 : Index := 0#32
  let c0_47 : Index := 0#32
  ![v74.toNat, 0, 1, 0, 0]
def k0_off5 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v84 : Index := Scalar.indexCast arg12
  let c1_48 : Index := 1#32
  let c0_49 : Index := 0#32
  let c0_50 : Index := 0#32
  let c0_51 : Index := 0#32
  ![v84.toNat, 1, 0, 0, 0]
def k0_off6 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v93 : Index := Scalar.indexCast arg12
  let c1_52 : Index := 1#32
  let c1_53 : Index := 1#32
  let c0_54 : Index := 0#32
  let c0_55 : Index := 0#32
  ![v93.toNat, 1, 1, 0, 0]
def k0_off7 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v128 : Index := Scalar.indexCast arg12
  let c0_62 : Index := 0#32
  let c0_63 : Index := 0#32
  let c0_64 : Index := 0#32
  let c0_65 : Index := 0#32
  ![v128.toNat, 0, 0, 0, 0]
def k0_off8 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v135 : Index := Scalar.indexCast arg12
  let c0_66 : Index := 0#32
  let c1_67 : Index := 1#32
  let c0_68 : Index := 0#32
  let c0_69 : Index := 0#32
  ![v135.toNat, 0, 1, 0, 0]
def k0_off9 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v142 : Index := Scalar.indexCast arg12
  let c0_70 : Index := 0#32
  let c2 : Index := 2#32
  let c0_71 : Index := 0#32
  let c0_72 : Index := 0#32
  ![v142.toNat, 0, 2, 0, 0]
def k0_off10 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v149 : Index := Scalar.indexCast arg12
  let c0_73 : Index := 0#32
  let c3 : Index := 3#32
  let c0_74 : Index := 0#32
  let c0_75 : Index := 0#32
  ![v149.toNat, 0, 3, 0, 0]
def k0_off11 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v156 : Index := Scalar.indexCast arg12
  let c0_76 : Index := 0#32
  let c4 : Index := 4#32
  let c0_77 : Index := 0#32
  let c0_78 : Index := 0#32
  ![v156.toNat, 0, 4, 0, 0]
def k0_off12 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v163 : Index := Scalar.indexCast arg12
  let c0_79 : Index := 0#32
  let c5 : Index := 5#32
  let c0_80 : Index := 0#32
  let c0_81 : Index := 0#32
  ![v163.toNat, 0, 5, 0, 0]
def k0_off13 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v170 : Index := Scalar.indexCast arg12
  let c0_82 : Index := 0#32
  let c6 : Index := 6#32
  let c0_83 : Index := 0#32
  let c0_84 : Index := 0#32
  ![v170.toNat, 0, 6, 0, 0]
def k0_off14 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v177 : Index := Scalar.indexCast arg12
  let c0_85 : Index := 0#32
  let c7 : Index := 7#32
  let c0_86 : Index := 0#32
  let c0_87 : Index := 0#32
  ![v177.toNat, 0, 7, 0, 0]
def k0_off15 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v191 : Index := Scalar.indexCast arg12
  let c1_88 : Index := 1#32
  let c0_89 : Index := 0#32
  let c0_90 : Index := 0#32
  let c0_91 : Index := 0#32
  ![v191.toNat, 1, 0, 0, 0]
def k0_off16 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v198 : Index := Scalar.indexCast arg12
  let c1_92 : Index := 1#32
  let c1_93 : Index := 1#32
  let c0_94 : Index := 0#32
  let c0_95 : Index := 0#32
  ![v198.toNat, 1, 1, 0, 0]
def k0_off17 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v205 : Index := Scalar.indexCast arg12
  let c1_96 : Index := 1#32
  let c2_97 : Index := 2#32
  let c0_98 : Index := 0#32
  let c0_99 : Index := 0#32
  ![v205.toNat, 1, 2, 0, 0]
def k0_off18 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v212 : Index := Scalar.indexCast arg12
  let c1_100 : Index := 1#32
  let c3_101 : Index := 3#32
  let c0_102 : Index := 0#32
  let c0_103 : Index := 0#32
  ![v212.toNat, 1, 3, 0, 0]
def k0_off19 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v219 : Index := Scalar.indexCast arg12
  let c1_104 : Index := 1#32
  let c4_105 : Index := 4#32
  let c0_106 : Index := 0#32
  let c0_107 : Index := 0#32
  ![v219.toNat, 1, 4, 0, 0]
def k0_off20 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v226 : Index := Scalar.indexCast arg12
  let c1_108 : Index := 1#32
  let c5_109 : Index := 5#32
  let c0_110 : Index := 0#32
  let c0_111 : Index := 0#32
  ![v226.toNat, 1, 5, 0, 0]
def k0_off21 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v233 : Index := Scalar.indexCast arg12
  let c1_112 : Index := 1#32
  let c6_113 : Index := 6#32
  let c0_114 : Index := 0#32
  let c0_115 : Index := 0#32
  ![v233.toNat, 1, 6, 0, 0]
def k0_off22 (k0_t1 : Fin k0_t1_loop.trips) : Fin 5 → Nat :=
  let c0_i32_1 : BitVec 32 := 0#32
  let c1_i32 : BitVec 32 := 1#32
  let arg12 : BitVec 32 := Scf.iv c0_i32_1 c1_i32 k0_t1
  let v240 : Index := Scalar.indexCast arg12
  let c1_116 : Index := 1#32
  let c7_117 : Index := 7#32
  let c0_118 : Index := 0#32
  let c0_119 : Index := 0#32
  ![v240.toNat, 1, 7, 0, 0]
def k0_off23 (k0_t1 : Fin k0_t1_loop.trips) (c0_i32_163 : BitVec 32) : Fin 2 → Nat :=
  let c0_i32_1 : BitVec 32 := 0#32
  let c1_i32 : BitVec 32 := 1#32
  let arg12 : BitVec 32 := Scf.iv c0_i32_1 c1_i32 k0_t1
  let c128_i32_162 : BitVec 32 := 128#32
  let v371 : BitVec 32 := Scalar.muli arg12 c128_i32_162
  let v372 : BitVec 32 := Scalar.addi v371 c0_i32_163
  let v373 : Index := Scalar.indexCast v372
  let c128 : Index := 128#32
  ![v373.toNat, 128]
def k0_off24 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v785 : Index := Scalar.indexCast arg12
  let c0_353 : Index := 0#32
  let c0_354 : Index := 0#32
  ![v785.toNat, 0, 0]
@[reducible] def k0_t2_loop : Scf.Loop 32 :=
  let c0_i32_9 : BitVec 32 := 0#32
  let c16_i32_10 : BitVec 32 := 16#32
  let v16 : BitVec 32 := Scalar.addi c0_i32_9 c16_i32_10
  let c1_i32_11 : BitVec 32 := 1#32
  ⟨c0_i32_9, v16, c1_i32_11⟩
def k0_off25 (k0_t2 : Fin k0_t2_loop.trips) : Fin 2 → Nat :=
  let c0_38 : Index := 0#32
  let c0_i32_9 : BitVec 32 := 0#32
  let c1_i32_11 : BitVec 32 := 1#32
  let arg12 : BitVec 32 := Scf.iv c0_i32_9 c1_i32_11 k0_t2
  let v51 : Index := Scalar.indexCast arg12
  ![0, v51.toNat]
def k0_off26 (k0_t2 : Fin k0_t2_loop.trips) (c0_i32_39 : BitVec 32) : Fin 2 → Nat :=
  let c0_i32_9 : BitVec 32 := 0#32
  let c1_i32_11 : BitVec 32 := 1#32
  let arg12 : BitVec 32 := Scf.iv c0_i32_9 c1_i32_11 k0_t2
  let c128_i32 : BitVec 32 := 128#32
  let v54 : BitVec 32 := Scalar.muli arg12 c128_i32
  let v55 : BitVec 32 := Scalar.addi v54 c0_i32_39
  let v56 : Index := Scalar.indexCast v55
  let c256_40 : Index := 256#32
  ![v56.toNat, 256]
def k0_off27 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v65 : Index := Scalar.indexCast arg12
  let c0_41 : Index := 0#32
  let c0_42 : Index := 0#32
  let c0_43 : Index := 0#32
  let c0_44 : Index := 0#32
  ![v65.toNat, 0, 0, 0, 0]
def k0_off28 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v74 : Index := Scalar.indexCast arg12
  let c0_45 : Index := 0#32
  let c1 : Index := 1#32
  let c0_46 : Index := 0#32
  let c0_47 : Index := 0#32
  ![v74.toNat, 0, 1, 0, 0]
def k0_off29 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v84 : Index := Scalar.indexCast arg12
  let c1_48 : Index := 1#32
  let c0_49 : Index := 0#32
  let c0_50 : Index := 0#32
  let c0_51 : Index := 0#32
  ![v84.toNat, 1, 0, 0, 0]
def k0_off30 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v93 : Index := Scalar.indexCast arg12
  let c1_52 : Index := 1#32
  let c1_53 : Index := 1#32
  let c0_54 : Index := 0#32
  let c0_55 : Index := 0#32
  ![v93.toNat, 1, 1, 0, 0]
def k0_off31 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v128 : Index := Scalar.indexCast arg12
  let c0_62 : Index := 0#32
  let c0_63 : Index := 0#32
  let c0_64 : Index := 0#32
  let c0_65 : Index := 0#32
  ![v128.toNat, 0, 0, 0, 0]
def k0_off32 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v135 : Index := Scalar.indexCast arg12
  let c0_66 : Index := 0#32
  let c1_67 : Index := 1#32
  let c0_68 : Index := 0#32
  let c0_69 : Index := 0#32
  ![v135.toNat, 0, 1, 0, 0]
def k0_off33 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v142 : Index := Scalar.indexCast arg12
  let c0_70 : Index := 0#32
  let c2 : Index := 2#32
  let c0_71 : Index := 0#32
  let c0_72 : Index := 0#32
  ![v142.toNat, 0, 2, 0, 0]
def k0_off34 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v149 : Index := Scalar.indexCast arg12
  let c0_73 : Index := 0#32
  let c3 : Index := 3#32
  let c0_74 : Index := 0#32
  let c0_75 : Index := 0#32
  ![v149.toNat, 0, 3, 0, 0]
def k0_off35 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v156 : Index := Scalar.indexCast arg12
  let c0_76 : Index := 0#32
  let c4 : Index := 4#32
  let c0_77 : Index := 0#32
  let c0_78 : Index := 0#32
  ![v156.toNat, 0, 4, 0, 0]
def k0_off36 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v163 : Index := Scalar.indexCast arg12
  let c0_79 : Index := 0#32
  let c5 : Index := 5#32
  let c0_80 : Index := 0#32
  let c0_81 : Index := 0#32
  ![v163.toNat, 0, 5, 0, 0]
def k0_off37 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v170 : Index := Scalar.indexCast arg12
  let c0_82 : Index := 0#32
  let c6 : Index := 6#32
  let c0_83 : Index := 0#32
  let c0_84 : Index := 0#32
  ![v170.toNat, 0, 6, 0, 0]
def k0_off38 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v177 : Index := Scalar.indexCast arg12
  let c0_85 : Index := 0#32
  let c7 : Index := 7#32
  let c0_86 : Index := 0#32
  let c0_87 : Index := 0#32
  ![v177.toNat, 0, 7, 0, 0]
def k0_off39 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v191 : Index := Scalar.indexCast arg12
  let c1_88 : Index := 1#32
  let c0_89 : Index := 0#32
  let c0_90 : Index := 0#32
  let c0_91 : Index := 0#32
  ![v191.toNat, 1, 0, 0, 0]
def k0_off40 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v198 : Index := Scalar.indexCast arg12
  let c1_92 : Index := 1#32
  let c1_93 : Index := 1#32
  let c0_94 : Index := 0#32
  let c0_95 : Index := 0#32
  ![v198.toNat, 1, 1, 0, 0]
def k0_off41 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v205 : Index := Scalar.indexCast arg12
  let c1_96 : Index := 1#32
  let c2_97 : Index := 2#32
  let c0_98 : Index := 0#32
  let c0_99 : Index := 0#32
  ![v205.toNat, 1, 2, 0, 0]
def k0_off42 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v212 : Index := Scalar.indexCast arg12
  let c1_100 : Index := 1#32
  let c3_101 : Index := 3#32
  let c0_102 : Index := 0#32
  let c0_103 : Index := 0#32
  ![v212.toNat, 1, 3, 0, 0]
def k0_off43 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v219 : Index := Scalar.indexCast arg12
  let c1_104 : Index := 1#32
  let c4_105 : Index := 4#32
  let c0_106 : Index := 0#32
  let c0_107 : Index := 0#32
  ![v219.toNat, 1, 4, 0, 0]
def k0_off44 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v226 : Index := Scalar.indexCast arg12
  let c1_108 : Index := 1#32
  let c5_109 : Index := 5#32
  let c0_110 : Index := 0#32
  let c0_111 : Index := 0#32
  ![v226.toNat, 1, 5, 0, 0]
def k0_off45 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v233 : Index := Scalar.indexCast arg12
  let c1_112 : Index := 1#32
  let c6_113 : Index := 6#32
  let c0_114 : Index := 0#32
  let c0_115 : Index := 0#32
  ![v233.toNat, 1, 6, 0, 0]
def k0_off46 (k0_t2 : Fin k0_t2_loop.trips) : Fin 5 → Nat :=
  let c0_i32_9 : BitVec 32 := 0#32
  let c1_i32_11 : BitVec 32 := 1#32
  let arg12 : BitVec 32 := Scf.iv c0_i32_9 c1_i32_11 k0_t2
  let v240 : Index := Scalar.indexCast arg12
  let c1_116 : Index := 1#32
  let c7_117 : Index := 7#32
  let c0_118 : Index := 0#32
  let c0_119 : Index := 0#32
  ![v240.toNat, 1, 7, 0, 0]
def k0_off47 (k0_t2 : Fin k0_t2_loop.trips) (c0_i32_163 : BitVec 32) : Fin 2 → Nat :=
  let c0_i32_9 : BitVec 32 := 0#32
  let c1_i32_11 : BitVec 32 := 1#32
  let arg12 : BitVec 32 := Scf.iv c0_i32_9 c1_i32_11 k0_t2
  let c128_i32_162 : BitVec 32 := 128#32
  let v371 : BitVec 32 := Scalar.muli arg12 c128_i32_162
  let v372 : BitVec 32 := Scalar.addi v371 c0_i32_163
  let v373 : Index := Scalar.indexCast v372
  let c384 : Index := 384#32
  ![v373.toNat, 384]
def k0_off48 (k0_t2 : Fin k0_t2_loop.trips) : Fin 3 → Nat :=
  let c0_i32_9 : BitVec 32 := 0#32
  let c1_i32_11 : BitVec 32 := 1#32
  let arg12 : BitVec 32 := Scf.iv c0_i32_9 c1_i32_11 k0_t2
  let v785 : Index := Scalar.indexCast arg12
  let c0_353 : Index := 0#32
  let c0_354 : Index := 0#32
  ![v785.toNat, 0, 0]
@[reducible] def k0_t3_loop : Scf.Loop 32 :=
  let c0_i32_19 : BitVec 32 := 0#32
  let c16_i32_20 : BitVec 32 := 16#32
  let v28 : BitVec 32 := Scalar.addi c0_i32_19 c16_i32_20
  let c1_i32_21 : BitVec 32 := 1#32
  ⟨c0_i32_19, v28, c1_i32_21⟩
def k0_off49 (k0_t3 : Fin k0_t3_loop.trips) : Fin 2 → Nat :=
  let c0_38 : Index := 0#32
  let c0_i32_19 : BitVec 32 := 0#32
  let c1_i32_21 : BitVec 32 := 1#32
  let arg12 : BitVec 32 := Scf.iv c0_i32_19 c1_i32_21 k0_t3
  let v51 : Index := Scalar.indexCast arg12
  ![0, v51.toNat]
def k0_off50 (k0_t3 : Fin k0_t3_loop.trips) (c0_i32_39 : BitVec 32) : Fin 2 → Nat :=
  let c0_i32_19 : BitVec 32 := 0#32
  let c1_i32_21 : BitVec 32 := 1#32
  let arg12 : BitVec 32 := Scf.iv c0_i32_19 c1_i32_21 k0_t3
  let c128_i32 : BitVec 32 := 128#32
  let v54 : BitVec 32 := Scalar.muli arg12 c128_i32
  let v55 : BitVec 32 := Scalar.addi v54 c0_i32_39
  let v56 : Index := Scalar.indexCast v55
  let c512_40 : Index := 512#32
  ![v56.toNat, 512]
def k0_off51 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v65 : Index := Scalar.indexCast arg12
  let c0_41 : Index := 0#32
  let c0_42 : Index := 0#32
  let c0_43 : Index := 0#32
  let c0_44 : Index := 0#32
  ![v65.toNat, 0, 0, 0, 0]
def k0_off52 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v74 : Index := Scalar.indexCast arg12
  let c0_45 : Index := 0#32
  let c1 : Index := 1#32
  let c0_46 : Index := 0#32
  let c0_47 : Index := 0#32
  ![v74.toNat, 0, 1, 0, 0]
def k0_off53 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v84 : Index := Scalar.indexCast arg12
  let c1_48 : Index := 1#32
  let c0_49 : Index := 0#32
  let c0_50 : Index := 0#32
  let c0_51 : Index := 0#32
  ![v84.toNat, 1, 0, 0, 0]
def k0_off54 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v93 : Index := Scalar.indexCast arg12
  let c1_52 : Index := 1#32
  let c1_53 : Index := 1#32
  let c0_54 : Index := 0#32
  let c0_55 : Index := 0#32
  ![v93.toNat, 1, 1, 0, 0]
def k0_off55 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v128 : Index := Scalar.indexCast arg12
  let c0_62 : Index := 0#32
  let c0_63 : Index := 0#32
  let c0_64 : Index := 0#32
  let c0_65 : Index := 0#32
  ![v128.toNat, 0, 0, 0, 0]
def k0_off56 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v135 : Index := Scalar.indexCast arg12
  let c0_66 : Index := 0#32
  let c1_67 : Index := 1#32
  let c0_68 : Index := 0#32
  let c0_69 : Index := 0#32
  ![v135.toNat, 0, 1, 0, 0]
def k0_off57 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v142 : Index := Scalar.indexCast arg12
  let c0_70 : Index := 0#32
  let c2 : Index := 2#32
  let c0_71 : Index := 0#32
  let c0_72 : Index := 0#32
  ![v142.toNat, 0, 2, 0, 0]
def k0_off58 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v149 : Index := Scalar.indexCast arg12
  let c0_73 : Index := 0#32
  let c3 : Index := 3#32
  let c0_74 : Index := 0#32
  let c0_75 : Index := 0#32
  ![v149.toNat, 0, 3, 0, 0]
def k0_off59 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v156 : Index := Scalar.indexCast arg12
  let c0_76 : Index := 0#32
  let c4 : Index := 4#32
  let c0_77 : Index := 0#32
  let c0_78 : Index := 0#32
  ![v156.toNat, 0, 4, 0, 0]
def k0_off60 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v163 : Index := Scalar.indexCast arg12
  let c0_79 : Index := 0#32
  let c5 : Index := 5#32
  let c0_80 : Index := 0#32
  let c0_81 : Index := 0#32
  ![v163.toNat, 0, 5, 0, 0]
def k0_off61 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v170 : Index := Scalar.indexCast arg12
  let c0_82 : Index := 0#32
  let c6 : Index := 6#32
  let c0_83 : Index := 0#32
  let c0_84 : Index := 0#32
  ![v170.toNat, 0, 6, 0, 0]
def k0_off62 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v177 : Index := Scalar.indexCast arg12
  let c0_85 : Index := 0#32
  let c7 : Index := 7#32
  let c0_86 : Index := 0#32
  let c0_87 : Index := 0#32
  ![v177.toNat, 0, 7, 0, 0]
def k0_off63 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v191 : Index := Scalar.indexCast arg12
  let c1_88 : Index := 1#32
  let c0_89 : Index := 0#32
  let c0_90 : Index := 0#32
  let c0_91 : Index := 0#32
  ![v191.toNat, 1, 0, 0, 0]
def k0_off64 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v198 : Index := Scalar.indexCast arg12
  let c1_92 : Index := 1#32
  let c1_93 : Index := 1#32
  let c0_94 : Index := 0#32
  let c0_95 : Index := 0#32
  ![v198.toNat, 1, 1, 0, 0]
def k0_off65 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v205 : Index := Scalar.indexCast arg12
  let c1_96 : Index := 1#32
  let c2_97 : Index := 2#32
  let c0_98 : Index := 0#32
  let c0_99 : Index := 0#32
  ![v205.toNat, 1, 2, 0, 0]
def k0_off66 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v212 : Index := Scalar.indexCast arg12
  let c1_100 : Index := 1#32
  let c3_101 : Index := 3#32
  let c0_102 : Index := 0#32
  let c0_103 : Index := 0#32
  ![v212.toNat, 1, 3, 0, 0]
def k0_off67 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v219 : Index := Scalar.indexCast arg12
  let c1_104 : Index := 1#32
  let c4_105 : Index := 4#32
  let c0_106 : Index := 0#32
  let c0_107 : Index := 0#32
  ![v219.toNat, 1, 4, 0, 0]
def k0_off68 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v226 : Index := Scalar.indexCast arg12
  let c1_108 : Index := 1#32
  let c5_109 : Index := 5#32
  let c0_110 : Index := 0#32
  let c0_111 : Index := 0#32
  ![v226.toNat, 1, 5, 0, 0]
def k0_off69 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v233 : Index := Scalar.indexCast arg12
  let c1_112 : Index := 1#32
  let c6_113 : Index := 6#32
  let c0_114 : Index := 0#32
  let c0_115 : Index := 0#32
  ![v233.toNat, 1, 6, 0, 0]
def k0_off70 (k0_t3 : Fin k0_t3_loop.trips) : Fin 5 → Nat :=
  let c0_i32_19 : BitVec 32 := 0#32
  let c1_i32_21 : BitVec 32 := 1#32
  let arg12 : BitVec 32 := Scf.iv c0_i32_19 c1_i32_21 k0_t3
  let v240 : Index := Scalar.indexCast arg12
  let c1_116 : Index := 1#32
  let c7_117 : Index := 7#32
  let c0_118 : Index := 0#32
  let c0_119 : Index := 0#32
  ![v240.toNat, 1, 7, 0, 0]
def k0_off71 (k0_t3 : Fin k0_t3_loop.trips) (c0_i32_163 : BitVec 32) : Fin 2 → Nat :=
  let c0_i32_19 : BitVec 32 := 0#32
  let c1_i32_21 : BitVec 32 := 1#32
  let arg12 : BitVec 32 := Scf.iv c0_i32_19 c1_i32_21 k0_t3
  let c128_i32_162 : BitVec 32 := 128#32
  let v371 : BitVec 32 := Scalar.muli arg12 c128_i32_162
  let v372 : BitVec 32 := Scalar.addi v371 c0_i32_163
  let v373 : Index := Scalar.indexCast v372
  let c640 : Index := 640#32
  ![v373.toNat, 640]
def k0_off72 (k0_t3 : Fin k0_t3_loop.trips) : Fin 3 → Nat :=
  let c0_i32_19 : BitVec 32 := 0#32
  let c1_i32_21 : BitVec 32 := 1#32
  let arg12 : BitVec 32 := Scf.iv c0_i32_19 c1_i32_21 k0_t3
  let v785 : Index := Scalar.indexCast arg12
  let c0_353 : Index := 0#32
  let c0_354 : Index := 0#32
  ![v785.toNat, 0, 0]
@[reducible] def k0_t4_loop : Scf.Loop 32 :=
  let c0_i32_29 : BitVec 32 := 0#32
  let c16_i32_30 : BitVec 32 := 16#32
  let v40 : BitVec 32 := Scalar.addi c0_i32_29 c16_i32_30
  let c1_i32_31 : BitVec 32 := 1#32
  ⟨c0_i32_29, v40, c1_i32_31⟩
def k0_off73 (k0_t4 : Fin k0_t4_loop.trips) : Fin 2 → Nat :=
  let c0_38 : Index := 0#32
  let c0_i32_29 : BitVec 32 := 0#32
  let c1_i32_31 : BitVec 32 := 1#32
  let arg12 : BitVec 32 := Scf.iv c0_i32_29 c1_i32_31 k0_t4
  let v51 : Index := Scalar.indexCast arg12
  ![0, v51.toNat]
def k0_off74 (k0_t4 : Fin k0_t4_loop.trips) (c0_i32_39 : BitVec 32) : Fin 2 → Nat :=
  let c0_i32_29 : BitVec 32 := 0#32
  let c1_i32_31 : BitVec 32 := 1#32
  let arg12 : BitVec 32 := Scf.iv c0_i32_29 c1_i32_31 k0_t4
  let c128_i32 : BitVec 32 := 128#32
  let v54 : BitVec 32 := Scalar.muli arg12 c128_i32
  let v55 : BitVec 32 := Scalar.addi v54 c0_i32_39
  let v56 : Index := Scalar.indexCast v55
  let c768_40 : Index := 768#32
  ![v56.toNat, 768]
def k0_off75 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v65 : Index := Scalar.indexCast arg12
  let c0_41 : Index := 0#32
  let c0_42 : Index := 0#32
  let c0_43 : Index := 0#32
  let c0_44 : Index := 0#32
  ![v65.toNat, 0, 0, 0, 0]
def k0_off76 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v74 : Index := Scalar.indexCast arg12
  let c0_45 : Index := 0#32
  let c1 : Index := 1#32
  let c0_46 : Index := 0#32
  let c0_47 : Index := 0#32
  ![v74.toNat, 0, 1, 0, 0]
def k0_off77 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v84 : Index := Scalar.indexCast arg12
  let c1_48 : Index := 1#32
  let c0_49 : Index := 0#32
  let c0_50 : Index := 0#32
  let c0_51 : Index := 0#32
  ![v84.toNat, 1, 0, 0, 0]
def k0_off78 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v93 : Index := Scalar.indexCast arg12
  let c1_52 : Index := 1#32
  let c1_53 : Index := 1#32
  let c0_54 : Index := 0#32
  let c0_55 : Index := 0#32
  ![v93.toNat, 1, 1, 0, 0]
def k0_off79 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v128 : Index := Scalar.indexCast arg12
  let c0_62 : Index := 0#32
  let c0_63 : Index := 0#32
  let c0_64 : Index := 0#32
  let c0_65 : Index := 0#32
  ![v128.toNat, 0, 0, 0, 0]
def k0_off80 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v135 : Index := Scalar.indexCast arg12
  let c0_66 : Index := 0#32
  let c1_67 : Index := 1#32
  let c0_68 : Index := 0#32
  let c0_69 : Index := 0#32
  ![v135.toNat, 0, 1, 0, 0]
def k0_off81 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v142 : Index := Scalar.indexCast arg12
  let c0_70 : Index := 0#32
  let c2 : Index := 2#32
  let c0_71 : Index := 0#32
  let c0_72 : Index := 0#32
  ![v142.toNat, 0, 2, 0, 0]
def k0_off82 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v149 : Index := Scalar.indexCast arg12
  let c0_73 : Index := 0#32
  let c3 : Index := 3#32
  let c0_74 : Index := 0#32
  let c0_75 : Index := 0#32
  ![v149.toNat, 0, 3, 0, 0]
def k0_off83 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v156 : Index := Scalar.indexCast arg12
  let c0_76 : Index := 0#32
  let c4 : Index := 4#32
  let c0_77 : Index := 0#32
  let c0_78 : Index := 0#32
  ![v156.toNat, 0, 4, 0, 0]
def k0_off84 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v163 : Index := Scalar.indexCast arg12
  let c0_79 : Index := 0#32
  let c5 : Index := 5#32
  let c0_80 : Index := 0#32
  let c0_81 : Index := 0#32
  ![v163.toNat, 0, 5, 0, 0]
def k0_off85 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v170 : Index := Scalar.indexCast arg12
  let c0_82 : Index := 0#32
  let c6 : Index := 6#32
  let c0_83 : Index := 0#32
  let c0_84 : Index := 0#32
  ![v170.toNat, 0, 6, 0, 0]
def k0_off86 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v177 : Index := Scalar.indexCast arg12
  let c0_85 : Index := 0#32
  let c7 : Index := 7#32
  let c0_86 : Index := 0#32
  let c0_87 : Index := 0#32
  ![v177.toNat, 0, 7, 0, 0]
def k0_off87 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v191 : Index := Scalar.indexCast arg12
  let c1_88 : Index := 1#32
  let c0_89 : Index := 0#32
  let c0_90 : Index := 0#32
  let c0_91 : Index := 0#32
  ![v191.toNat, 1, 0, 0, 0]
def k0_off88 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v198 : Index := Scalar.indexCast arg12
  let c1_92 : Index := 1#32
  let c1_93 : Index := 1#32
  let c0_94 : Index := 0#32
  let c0_95 : Index := 0#32
  ![v198.toNat, 1, 1, 0, 0]
def k0_off89 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v205 : Index := Scalar.indexCast arg12
  let c1_96 : Index := 1#32
  let c2_97 : Index := 2#32
  let c0_98 : Index := 0#32
  let c0_99 : Index := 0#32
  ![v205.toNat, 1, 2, 0, 0]
def k0_off90 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v212 : Index := Scalar.indexCast arg12
  let c1_100 : Index := 1#32
  let c3_101 : Index := 3#32
  let c0_102 : Index := 0#32
  let c0_103 : Index := 0#32
  ![v212.toNat, 1, 3, 0, 0]
def k0_off91 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v219 : Index := Scalar.indexCast arg12
  let c1_104 : Index := 1#32
  let c4_105 : Index := 4#32
  let c0_106 : Index := 0#32
  let c0_107 : Index := 0#32
  ![v219.toNat, 1, 4, 0, 0]
def k0_off92 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v226 : Index := Scalar.indexCast arg12
  let c1_108 : Index := 1#32
  let c5_109 : Index := 5#32
  let c0_110 : Index := 0#32
  let c0_111 : Index := 0#32
  ![v226.toNat, 1, 5, 0, 0]
def k0_off93 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v233 : Index := Scalar.indexCast arg12
  let c1_112 : Index := 1#32
  let c6_113 : Index := 6#32
  let c0_114 : Index := 0#32
  let c0_115 : Index := 0#32
  ![v233.toNat, 1, 6, 0, 0]
def k0_off94 (k0_t4 : Fin k0_t4_loop.trips) : Fin 5 → Nat :=
  let c0_i32_29 : BitVec 32 := 0#32
  let c1_i32_31 : BitVec 32 := 1#32
  let arg12 : BitVec 32 := Scf.iv c0_i32_29 c1_i32_31 k0_t4
  let v240 : Index := Scalar.indexCast arg12
  let c1_116 : Index := 1#32
  let c7_117 : Index := 7#32
  let c0_118 : Index := 0#32
  let c0_119 : Index := 0#32
  ![v240.toNat, 1, 7, 0, 0]
def k0_off95 (k0_t4 : Fin k0_t4_loop.trips) (c0_i32_163 : BitVec 32) : Fin 2 → Nat :=
  let c0_i32_29 : BitVec 32 := 0#32
  let c1_i32_31 : BitVec 32 := 1#32
  let arg12 : BitVec 32 := Scf.iv c0_i32_29 c1_i32_31 k0_t4
  let c128_i32_162 : BitVec 32 := 128#32
  let v371 : BitVec 32 := Scalar.muli arg12 c128_i32_162
  let v372 : BitVec 32 := Scalar.addi v371 c0_i32_163
  let v373 : Index := Scalar.indexCast v372
  let c896 : Index := 896#32
  ![v373.toNat, 896]
def k0_off96 (k0_t4 : Fin k0_t4_loop.trips) : Fin 3 → Nat :=
  let c0_i32_29 : BitVec 32 := 0#32
  let c1_i32_31 : BitVec 32 := 1#32
  let arg12 : BitVec 32 := Scf.iv c0_i32_29 c1_i32_31 k0_t4
  let v785 : Index := Scalar.indexCast arg12
  let c0_353 : Index := 0#32
  let c0_354 : Index := 0#32
  ![v785.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2x2x32x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2x8x32x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x128x4096 : Shape := ⟨3, ![1, 128, 4096]⟩
abbrev S2048x14336 : Shape := ⟨2, ![2048, 14336]⟩
abbrev S16x256x2 : Shape := ⟨3, ![16, 256, 2]⟩
abbrev S16 : Shape := ⟨1, ![16]⟩
abbrev S14336 : Shape := ⟨1, ![14336]⟩
abbrev S16x1x1 : Shape := ⟨3, ![16, 1, 1]⟩
abbrev S16x128x14336 : Shape := ⟨3, ![16, 128, 14336]⟩
abbrev S16x128x14336x1 : Shape := ⟨4, ![16, 128, 14336, 1]⟩
abbrev S16x128x14336x2 : Shape := ⟨4, ![16, 128, 14336, 2]⟩
abbrev S2048x14336x2 : Shape := ⟨3, ![2048, 14336, 2]⟩
abbrev S128x4096 : Shape := ⟨2, ![128, 4096]⟩
abbrev S_ : Shape := ⟨0, ![]⟩
abbrev S128 : Shape := ⟨1, ![128]⟩
abbrev S128x1 : Shape := ⟨2, ![128, 1]⟩
abbrev S128x2048x2 : Shape := ⟨3, ![128, 2048, 2]⟩
abbrev S128x2048x1 : Shape := ⟨3, ![128, 2048, 1]⟩
abbrev S128x2048 : Shape := ⟨2, ![128, 2048]⟩
abbrev S2048x14336x1 : Shape := ⟨3, ![2048, 14336, 1]⟩
abbrev S128x14336 : Shape := ⟨2, ![128, 14336]⟩
abbrev S1x14336 : Shape := ⟨2, ![1, 14336]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S1x128x4096, .bf16⟩
  | .hbm, ⟨1, _⟩ => ⟨S2048x14336, .i8⟩
  | .hbm, ⟨2, _⟩ => ⟨S16x256x2, .i8⟩
  | .hbm, ⟨3, _⟩ => ⟨S16, .bf16⟩
  | .hbm, ⟨4, _⟩ => ⟨S14336, .f32⟩
  | .hbm, ⟨5, _⟩ => ⟨S16x256x2, .i32⟩
  | .hbm, ⟨6, _⟩ => ⟨S16x256x2, .f32⟩
  | .hbm, ⟨7, _⟩ => ⟨S16x256x2, .bf16⟩
  | .hbm, ⟨8, _⟩ => ⟨S16x1x1, .bf16⟩
  | .hbm, ⟨9, _⟩ => ⟨S16x256x2, .bf16⟩
  | .hbm, ⟨10, _⟩ => ⟨S16x256x2, .bf16⟩
  | .hbm, ⟨11, _⟩ => ⟨S2048x14336, .i32⟩
  | .hbm, ⟨12, _⟩ => ⟨S16x128x14336, .i32⟩
  | .hbm, ⟨13, _⟩ => ⟨S16x128x14336, .i32⟩
  | .hbm, ⟨14, _⟩ => ⟨S16x128x14336x1, .i32⟩
  | .hbm, ⟨15, _⟩ => ⟨S16x128x14336x1, .i32⟩
  | .hbm, ⟨16, _⟩ => ⟨S16x128x14336x2, .i32⟩
  | .hbm, ⟨17, _⟩ => ⟨S16x128x14336x2, .bf16⟩
  | .hbm, ⟨18, _⟩ => ⟨S2048x14336x2, .bf16⟩
  | .hbm, ⟨19, _⟩ => ⟨S128x4096, .bf16⟩
  | .hbm, ⟨20, _⟩ => ⟨S128x4096, .f32⟩
  | .hbm, ⟨21, _⟩ => ⟨S128x4096, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .i1⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128x1, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S128x4096, .f32⟩
  | .hbm, ⟨42, _⟩ => ⟨S128x4096, .f32⟩
  | .hbm, ⟨43, _⟩ => ⟨S_, .f32⟩
  | .hbm, ⟨44, _⟩ => ⟨S128x4096, .f32⟩
  | .hbm, ⟨45, _⟩ => ⟨S128x4096, .f32⟩
  | .hbm, ⟨46, _⟩ => ⟨S128x4096, .i32⟩
  | .hbm, ⟨47, _⟩ => ⟨S128x4096, .i8⟩
  | .hbm, ⟨48, _⟩ => ⟨S128x4096, .i32⟩
  | .hbm, ⟨49, _⟩ => ⟨S128x4096, .f32⟩
  | .hbm, ⟨50, _⟩ => ⟨S128x4096, .bf16⟩
  | .hbm, ⟨51, _⟩ => ⟨S128x2048x2, .bf16⟩
  | .hbm, ⟨52, _⟩ => ⟨S128x2048x1, .bf16⟩
  | .hbm, ⟨53, _⟩ => ⟨S128x2048, .bf16⟩
  | .hbm, ⟨54, _⟩ => ⟨S2048x14336x1, .bf16⟩
  | .hbm, ⟨55, _⟩ => ⟨S2048x14336, .bf16⟩
  | .hbm, ⟨56, _⟩ => ⟨S128x14336, .f32⟩
  | .hbm, ⟨57, _⟩ => ⟨S128x2048x1, .bf16⟩
  | .hbm, ⟨58, _⟩ => ⟨S128x2048, .bf16⟩
  | .hbm, ⟨59, _⟩ => ⟨S2048x14336x1, .bf16⟩
  | .hbm, ⟨60, _⟩ => ⟨S2048x14336, .bf16⟩
  | .hbm, ⟨61, _⟩ => ⟨S128x14336, .f32⟩
  | .hbm, ⟨62, _⟩ => ⟨S128x14336, .f32⟩
  | .hbm, ⟨63, _⟩ => ⟨S128x1, .f32⟩
  | .hbm, ⟨64, _⟩ => ⟨S128x14336, .f32⟩
  | .hbm, ⟨65, _⟩ => ⟨S128x14336, .f32⟩
  | .hbm, ⟨66, _⟩ => ⟨S1x14336, .f32⟩
  | .hbm, ⟨67, _⟩ => ⟨S128x14336, .f32⟩
  | .hbm, ⟨68, _⟩ => ⟨S128x14336, .f32⟩
  | .hbm, ⟨69, _⟩ => ⟨S128x14336, .bf16⟩
  | .hbm, ⟨70, _⟩ => ⟨S1x128, .f32⟩
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_c_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.Bits.Runs.lean ====
/- For the kernel as printed. What the runs of the kernel's body share: its one branch condition in closed form, the windows that are never idle,
   the staging and scratch buffers the pipeline passes, and the scratch buffers as the body is handed them. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle: the body stores into it at every point. -/
theorem liveAt0_6 : ∀ t : Fin cfg0.N, cfg0.idle 6 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .smem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2x2x32x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2x8x32x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S16x128x256 .bf16 := Memref.whole cc0_scratch0
abbrev scM0_1 : Memref sig .tc .vmem S128x128 .f32 := Memref.whole cc0_scratch1
/-- The scratch `arg10` the kernel carries between points, as a view: what it holds is stated through it. -/
abbrev VS0_0 : View sig .tc .vmem S16x128x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Bits.RunA.lean ====
/- For the kernel as printed. The kernel body's run at the first grid point: it quantises the activations into the scratch buffers and the two
   outputs that carry codes and scales, then computes the first column block of the product. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs' at their contents, the body at the first point hands back each output's and
    each scratch buffer with the pieces the run finds written into it (last first): `L7` the product block, `L8` the
    codes, `L9` the scales, `L10` the regrouped codes, `L11` the scales spread over lanes. -/
noncomputable def kernelRun0_A (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole) (hc0 : cond0_0 i)
    (x0 : Vec F S1x16 .f32) (x1 : Vec F S128x4096 .bf16) (x2 : Vec F S2048x1024 .i8) (x3 : Vec F S16x2x2x32x128 .i8) (x4 : Vec F S16x2x8x32x128 .i8) (x5 : Vec F S1x1024 .f32)
    : Σ' (L7 : List (View.Piece (Elt F) S128x1024 .bf16)), Σ' (L8 : List (View.Piece (Elt F) S128x4096 .i8)), Σ' (L9 : List (View.Piece (Elt F) S1x128 .f32)), Σ' (L10 : List (View.Piece (Elt F) S16x128x256 .bf16)), Σ' (L11 : List (View.Piece (Elt F) S128x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc0__body_eq_skeleton]; unfold cc0__body_skel
    simp only [k0_part106_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Gen

end
-- ==== Proof.Bits.RunB.lean ====
/- For the kernel as printed. The kernel body's run at every grid point but the first: it reads the two scratch buffers the first point filled,
   and computes its column block of the product. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs', the codes', the scales' and both scratch buffers at their contents, the body
    at a later point hands all of these back as they were, and the product block with the pieces `L7` the run finds. -/
noncomputable def kernelRun0_B (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole) (hc0 : ¬cond0_0 i)
    (x0 : Vec F S1x16 .f32) (x1 : Vec F S128x4096 .bf16) (x2 : Vec F S2048x1024 .i8) (x3 : Vec F S16x2x2x32x128 .i8) (x4 : Vec F S16x2x8x32x128 .i8) (x5 : Vec F S1x1024 .f32) (xo7 : Vec F S128x4096 .i8) (xo8 : Vec F S1x128 .f32) (xs0 : Vec F S16x128x256 .bf16) (xs1 : Vec F S128x128 .f32)
    : Σ' (L7 : List (View.Piece (Elt F) S128x1024 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xo7 ∗ owns (c : Thread nD τ) arg9 fullShare xo8 ∗ owns (c : Thread nD τ) arg10 fullShare xs0 ∗ owns (c : Thread nD τ) arg11 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  refine ⟨?_, fun E K => ?run⟩
  case run =>
    simp only [cc0__body_eq_skeleton]; unfold cc0__body_skel
    simp only [k0_part106_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexists _; isplitr; · ipureintro; exact harg11.read_unread _
    iexact HS1

end Cert.Kernel.Gen

end
-- ==== Proof.Bits.Frame.lean ====
/- The frame of the kernel as printed, over its own words; the argument is that of the module of the same name one folder up. The pipeline's proof data with every output named: what the first point leaves in the codes, the scales and the two
   scratch buffers stays there through the later points, and each point leaves its own block of the product. -/
module

public import proofs.«01_k».proof.Proof.Bits.RunB
public import Idealize.ShloMosaic.Lib.Claim
public import Idealize.ShloMosaic.Lib.Pipeline.TableIdle

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def tZ : Fin cfg0.N := ⟨0, by rw [show cfg0.N = 14 from N_0]; decide⟩

/-- The body's run at the first point, on the blocks staged there. -/
def runAt0 (c : Dev nD) := kernelRun0_A c (grid0.coords tZ) (ms0_0 tZ) (hs0_0 tZ) (ms0_1 tZ) (hs0_1 tZ) (ms0_2 tZ) (hs0_2 tZ) (ms0_3 tZ) (hs0_3 tZ) (ms0_4 tZ) (hs0_4 tZ) (ms0_5 tZ) (hs0_5 tZ) (ms0_6 tZ) (hs0_6 tZ) (ms0_7 tZ) (hs0_7 tZ) (ms0_8 tZ) (hs0_8 tZ) scM0_0 (Memref.isWhole_whole _) scM0_1 (Memref.isWhole_whole _) ((hcond0_0 tZ).mpr (Nat.zero_mod _)) (iblk m c 0 tZ) (iblk m c 1 tZ) (iblk m c 2 tZ) (iblk m c 3 tZ) (iblk m c 4 tZ) (iblk m c 5 tZ)

/-- What the first point leaves in the codes, -/
def codesV (c : Dev nD) : Vec F S128x4096 .i8 := View.canon (runAt0 m c).2.1
/-- in the scales, -/
def scalesV (c : Dev nD) : Vec F S1x128 .f32 := View.canon (runAt0 m c).2.2.1
/-- in the regrouped codes, -/
def xbV (c : Dev nD) : Vec F S16x128x256 .bf16 := View.canon (runAt0 m c).2.2.2.1
/-- and in the scales spread over lanes. -/
def scV (c : Dev nD) : Vec F S128x128 .f32 := View.canon (runAt0 m c).2.2.2.2.1

/-- The body's run at a later point, on the blocks staged there and what the first point left. -/
def runAt (c : Dev nD) (t : Fin cfg0.N) (h0 : ¬t.val % 14 = 0) := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (codesV m c) (scalesV m c) (xbV m c) (scV m c)

/-- The block of the product a point leaves. -/
def yV (c : Dev nD) (t : Fin cfg0.N) : Vec F S128x1024 .bf16 :=
  if h0 : t.val % 14 = 0 then View.canon (runAt0 m c).1 else View.canon (runAt m c t h0).1

/-! ## The pieces cover their buffers -/

theorem coverA7 (c : Dev nD) (y : S128x1024.Idx) : ∃ pc ∈ (runAt0 m c).1, y ∈ pc.1.set :=
  View.cover_of_tiledL (runAt0 m c).1 S128x256.size (by sl_kernel_rfl) y
theorem coverA8 (c : Dev nD) (y : S128x4096.Idx) : ∃ pc ∈ (runAt0 m c).2.1, y ∈ pc.1.set :=
  View.cover_of_tiledL (runAt0 m c).2.1 S128x4096.size (by sl_kernel_rfl) y
theorem coverA9 (c : Dev nD) (y : S1x128.Idx) : ∃ pc ∈ (runAt0 m c).2.2.1, y ∈ pc.1.set :=
  View.cover_of_tiledL (runAt0 m c).2.2.1 S1x128.size (by sl_kernel_rfl) y
theorem coverA10 (c : Dev nD) (y : S16x128x256.Idx) : ∃ pc ∈ (runAt0 m c).2.2.2.1, y ∈ pc.1.set :=
  View.cover_of_tiledL (runAt0 m c).2.2.2.1 S1x32x128.size (by sl_kernel_rfl) y
theorem coverA11 (c : Dev nD) (y : S128x128.Idx) : ∃ pc ∈ (runAt0 m c).2.2.2.2.1, y ∈ pc.1.set :=
  View.cover_of_tiledL (runAt0 m c).2.2.2.2.1 S128x128.size (by sl_kernel_rfl) y
theorem coverB7 (c : Dev nD) (t : Fin cfg0.N) (h0 : ¬t.val % 14 = 0) (y : S128x1024.Idx) : ∃ pc ∈ (runAt m c t h0).1, y ∈ pc.1.set :=
  View.cover_of_tiledL (runAt m c t h0).1 S128x256.size (by sl_kernel_rfl) y

/-! ## The invariant and the proof data -/

/-- Before the first point the scratch buffers hold anything; after it, what it left. -/
def PhiS (c : Dev nD) : ℕ → sProp 𝕄
  | 0 => Pipeline.ΦA spec0 c
  | _ + 1 => iprop(iprop(owns (c : Thread nD τ) scM0_0 fullShare (xbV m c) ∗ owns (c : Thread nD τ) scM0_1 fullShare (scV m c)) ∗ (∃ r, prngReg c r))

theorem PhiS_pos (c : Dev nD) (n : ℕ) (hz : n ≠ 0) :
    PhiS m c n = iprop(iprop(owns (c : Thread nD τ) scM0_0 fullShare (xbV m c) ∗ owns (c : Thread nD τ) scM0_1 fullShare (scV m c)) ∗ (∃ r, prngReg c r)) := by
  cases n with
  | zero => exact absurd rfl hz
  | succ n => rfl

/-- The proof data: the arrays as the region finds them; after the body each input's buffer at its block, the product at
    its block, the codes and the scales as the first point left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yV m c t
    | ⟨7, _⟩ => codesV m c
    | ⟨8, _⟩ => scalesV m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yV m c t := by dsimp only [dats]
theorem after0_7 (c : Dev nD) (t : Fin cfg0.N) : (dats m 0 c).after 7 t = codesV m c := by dsimp only [dats]
theorem after0_8 (c : Dev nD) (t : Fin cfg0.N) : (dats m 0 c).after 8 t = scalesV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The codes window is idle exactly after the first point. -/
theorem idle0_7 (t : Fin cfg0.N) : cfg0.idle 7 (grid0.coords t) = !decide (t.val = 0) := by
  have hN : t.val < 14 := lt_of_lt_of_eq t.isLt (show cfg0.N = 14 from N_0)
  show (!(k0_cond1 (grid0.coords t) == 1#1)) = _
  have h := hcond0_0 t
  congr 1
  rw [Bool.eq_iff_iff, beq_iff_eq, decide_eq_true_iff]
  exact h.trans ⟨fun h => by omega, fun h => by omega⟩

theorem flush0_7' (t : Fin cfg0.N) : (cfg0.win 7).flush t = decide (t.val = 13) := by
  have hN : t.val < 14 := lt_of_lt_of_eq t.isLt (show cfg0.N = 14 from N_0)
  rw [Bool.eq_iff_iff, decide_eq_true_iff]
  exact (flush0_7 t).trans ⟨fun h => by omega, fun h => by omega⟩

theorem fresh0_7 (t : Fin cfg0.N) : cfg0.fresh 7 t.val = decide (t.val = 0) := by
  have hN : t.val < 14 := lt_of_lt_of_eq t.isLt (show cfg0.N = 14 from N_0)
  rw [cfg0.fresh_tab 7 (fun n => decide (n = 0 ∨ n = 14)) (by decide) (fun t => by
    have hN : t.val < 14 := lt_of_lt_of_eq t.isLt (show cfg0.N = 14 from N_0)
    rw [flush0_7']
    rw [show cfg0.idle 7 (cfg0.grid.coords t) = _ from idle0_7 t]
    rw [Bool.eq_iff_iff]
    simp only [Bool.or_eq_true, Bool.and_eq_true, Bool.not_eq_true', decide_eq_true_iff, decide_eq_false_iff_not]
    omega) t.val (le_of_lt t.isLt), Bool.eq_iff_iff, decide_eq_true_iff, decide_eq_true_iff]
  omega

/-- After the first point the body finds the codes as it left them. -/
theorem before0_7 (c : Dev nD) (t : Fin cfg0.N) (hz : t.val ≠ 0) (d) : (dats m 0 c).before 7 t d = codesV m c := by
  have e := (dats m 0 c).before_out_traj 7 rfl (fun _ _ => rfl) (fun t _ _ _ => by rw [after0_7, after0_7]) t.val t rfl d
  rw [fresh0_7, if_neg (by rw [decide_eq_true_iff]; exact hz), after0_7] at e
  exact e

/-- The scales window is idle exactly after the first point. -/
theorem idle0_8 (t : Fin cfg0.N) : cfg0.idle 8 (grid0.coords t) = !decide (t.val = 0) := by
  have hN : t.val < 14 := lt_of_lt_of_eq t.isLt (show cfg0.N = 14 from N_0)
  show (!(k0_cond1 (grid0.coords t) == 1#1)) = _
  have h := hcond0_0 t
  congr 1
  rw [Bool.eq_iff_iff, beq_iff_eq, decide_eq_true_iff]
  exact h.trans ⟨fun h => by omega, fun h => by omega⟩

theorem flush0_8' (t : Fin cfg0.N) : (cfg0.win 8).flush t = decide (t.val = 13) := by
  have hN : t.val < 14 := lt_of_lt_of_eq t.isLt (show cfg0.N = 14 from N_0)
  rw [Bool.eq_iff_iff, decide_eq_true_iff]
  exact (flush0_8 t).trans ⟨fun h => by omega, fun h => by omega⟩

theorem fresh0_8 (t : Fin cfg0.N) : cfg0.fresh 8 t.val = decide (t.val = 0) := by
  have hN : t.val < 14 := lt_of_lt_of_eq t.isLt (show cfg0.N = 14 from N_0)
  rw [cfg0.fresh_tab 8 (fun n => decide (n = 0 ∨ n = 14)) (by decide) (fun t => by
    have hN : t.val < 14 := lt_of_lt_of_eq t.isLt (show cfg0.N = 14 from N_0)
    rw [flush0_8']
    rw [show cfg0.idle 8 (cfg0.grid.coords t) = _ from idle0_8 t]
    rw [Bool.eq_iff_iff]
    simp only [Bool.or_eq_true, Bool.and_eq_true, Bool.not_eq_true', decide_eq_true_iff, decide_eq_false_iff_not]
    omega) t.val (le_of_lt t.isLt), Bool.eq_iff_iff, decide_eq_true_iff, decide_eq_true_iff]
  omega

/-- After the first point the body finds the scales as it left them. -/
theorem before0_8 (c : Dev nD) (t : Fin cfg0.N) (hz : t.val ≠ 0) (d) : (dats m 0 c).before 8 t d = scalesV m c := by
  have e := (dats m 0 c).before_out_traj 8 rfl (fun _ _ => rfl) (fun t _ _ _ => by rw [after0_8, after0_8]) t.val t rfl d
  rw [fresh0_8, if_neg (by rw [decide_eq_true_iff]; exact hz), after0_8] at e
  exact e

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window that is not idle is handed back at what the proof data says. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- After the first point the codes may be handed back as they were found. -/
theorem leaves0_7 (c : Dev nD) (t : Fin cfg0.N) (hz : t.val ≠ 0) :
    owns (c : Thread nD τ) (ms0_7 t) fullShare (codesV m c) ⊢ (dats m 0 c).leavesExact 7 t := by
  have hi : cfg0.idle 7 (cfg0.grid.coords t) = true := by
    rw [show cfg0.idle 7 (cfg0.grid.coords t) = _ from idle0_7 t]; simp [hz]
  by_cases hf : t.val = 13
  · have hfl : (cfg0.win 7).flush t = true := by rw [flush0_7']; simp [hf]
    rw [show (dats m 0 c).leavesExact 7 t = owns (c : Thread nD τ) (ms0_7 t) fullShare ((dats m 0 c).after 7 t) from by
      unfold Dat.leavesExact; rw [hi, hfl], after0_7]
  · have hfl : (cfg0.win 7).flush t = false := by rw [flush0_7']; simp [hf]
    rw [(dats m 0 c).leavesExact_idle 7 t hi hfl]
    iintro H
    iexists (codesV m c)
    rw [before0_7 m c t hz]
    iexact H

/-- After the first point the scales may be handed back as they were found. -/
theorem leaves0_8 (c : Dev nD) (t : Fin cfg0.N) (hz : t.val ≠ 0) :
    owns (c : Thread nD τ) (ms0_8 t) fullShare (scalesV m c) ⊢ (dats m 0 c).leavesExact 8 t := by
  have hi : cfg0.idle 8 (cfg0.grid.coords t) = true := by
    rw [show cfg0.idle 8 (cfg0.grid.coords t) = _ from idle0_8 t]; simp [hz]
  by_cases hf : t.val = 13
  · have hfl : (cfg0.win 8).flush t = true := by rw [flush0_8']; simp [hf]
    rw [show (dats m 0 c).leavesExact 8 t = owns (c : Thread nD τ) (ms0_8 t) fullShare ((dats m 0 c).after 8 t) from by
      unfold Dat.leavesExact; rw [hi, hfl], after0_8]
  · have hfl : (cfg0.win 8).flush t = false := by rw [flush0_8']; simp [hf]
    rw [(dats m 0 c).leavesExact_idle 8 t hi hfl]
    iintro H
    iexists (scalesV m c)
    rw [before0_8 m c t hz]
    iexact H

set_option maxHeartbeats 6400000 in
/-- The body at the first point. -/
theorem sound_bodyA (c : Dev nD) :
    bodyPre m c tZ ⊢ wp frame (wpE (defs₀ (F := F)) Variants.none c none) Set.univ (bodyAt0 tZ) (fun _ => bodyPost m c tZ) := by
    unfold bodyPre bodyPost bodyAt0
    simp only [before0_0, before0_1, before0_2, before0_3, before0_4, before0_5]
    rw [show (dats m 0 c).owesAt () tZ.succ = (dats m 0 c).owesAt () tZ.castSucc from rfl]
    rw [show (dats m 0 c).Φ tZ.succ = PhiS m c (0 + 1) from rfl, PhiS_pos m c _ (by decide)]
    rw [show (dats m 0 c).Φ tZ.castSucc = Pipeline.ΦA spec0 c from rfl, PhiA0_eq]
    rw [show (dats m 0 c).leavesExact 0 tZ = owns (c : Thread nD τ) (ms0_0 tZ) fullShare ((dats m 0 c).after 0 tZ) from leaves_live m c 0 tZ (liveAt0_0 tZ), after0_0]
    rw [show (dats m 0 c).leavesExact 1 tZ = owns (c : Thread nD τ) (ms0_1 tZ) fullShare ((dats m 0 c).after 1 tZ) from leaves_live m c 1 tZ (liveAt0_1 tZ), after0_1]
    rw [show (dats m 0 c).leavesExact 2 tZ = owns (c : Thread nD τ) (ms0_2 tZ) fullShare ((dats m 0 c).after 2 tZ) from leaves_live m c 2 tZ (liveAt0_2 tZ), after0_2]
    rw [show (dats m 0 c).leavesExact 3 tZ = owns (c : Thread nD τ) (ms0_3 tZ) fullShare ((dats m 0 c).after 3 tZ) from leaves_live m c 3 tZ (liveAt0_3 tZ), after0_3]
    rw [show (dats m 0 c).leavesExact 4 tZ = owns (c : Thread nD τ) (ms0_4 tZ) fullShare ((dats m 0 c).after 4 tZ) from leaves_live m c 4 tZ (liveAt0_4 tZ), after0_4]
    rw [show (dats m 0 c).leavesExact 5 tZ = owns (c : Thread nD τ) (ms0_5 tZ) fullShare ((dats m 0 c).after 5 tZ) from leaves_live m c 5 tZ (liveAt0_5 tZ), after0_5]
    rw [show (dats m 0 c).leavesExact 6 tZ = owns (c : Thread nD τ) (ms0_6 tZ) fullShare ((dats m 0 c).after 6 tZ) from leaves_live m c 6 tZ (liveAt0_6 tZ), after0_6]
    rw [show (dats m 0 c).leavesExact 7 tZ = owns (c : Thread nD τ) (ms0_7 tZ) fullShare ((dats m 0 c).after 7 tZ) from leaves_live m c 7 tZ (idle0_7 tZ), after0_7]
    rw [show (dats m 0 c).leavesExact 8 tZ = owns (c : Thread nD τ) (ms0_8 tZ) fullShare ((dats m 0 c).after 8 tZ) from leaves_live m c 8 tZ (idle0_8 tZ), after0_8]
    rw [show yV m c tZ = View.canon (runAt0 m c).1 from dif_pos (Nat.zero_mod _)]
    unfold codesV scalesV xbV scV
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt0 m c).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (coverA10 m c)
        · unfold owns; iexists _; isplitr
          swap; · iexact HS1
          ipureintro; exact View.read_writes_eq_canon _ _ _ (coverA11 m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverA7 m c)
    isplitl [H7]
    · unfold owns; iexists _; isplitr
      swap; · iexact H7
      ipureintro; exact View.read_writes_eq_canon _ _ _ (coverA8 m c)
    · unfold owns; iexists _; isplitr
      swap; · iexact H8
      ipureintro; exact View.read_writes_eq_canon _ _ _ (coverA9 m c)

set_option maxHeartbeats 6400000 in
/-- The body at a later point. -/
theorem sound_bodyB (c : Dev nD) (t : Fin cfg0.N) (h0 : ¬t.val % 14 = 0) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5, before0_7 m c t hz, before0_8 m c t hz]
    rw [show (dats m 0 c).owesAt () t.succ = (dats m 0 c).owesAt () t.castSucc from rfl]
    rw [show (dats m 0 c).Φ t.succ = PhiS m c (t.val + 1) from rfl, PhiS_pos m c (t.val + 1) (by omega)]
    rw [show (dats m 0 c).Φ t.castSucc = PhiS m c t.val from rfl, PhiS_pos m c t.val hz]
    rw [show (dats m 0 c).leavesExact 0 t = owns (c : Thread nD τ) (ms0_0 t) fullShare ((dats m 0 c).after 0 t) from leaves_live m c 0 t (liveAt0_0 t), after0_0]
    rw [show (dats m 0 c).leavesExact 1 t = owns (c : Thread nD τ) (ms0_1 t) fullShare ((dats m 0 c).after 1 t) from leaves_live m c 1 t (liveAt0_1 t), after0_1]
    rw [show (dats m 0 c).leavesExact 2 t = owns (c : Thread nD τ) (ms0_2 t) fullShare ((dats m 0 c).after 2 t) from leaves_live m c 2 t (liveAt0_2 t), after0_2]
    rw [show (dats m 0 c).leavesExact 3 t = owns (c : Thread nD τ) (ms0_3 t) fullShare ((dats m 0 c).after 3 t) from leaves_live m c 3 t (liveAt0_3 t), after0_3]
    rw [show (dats m 0 c).leavesExact 4 t = owns (c : Thread nD τ) (ms0_4 t) fullShare ((dats m 0 c).after 4 t) from leaves_live m c 4 t (liveAt0_4 t), after0_4]
    rw [show (dats m 0 c).leavesExact 5 t = owns (c : Thread nD τ) (ms0_5 t) fullShare ((dats m 0 c).after 5 t) from leaves_live m c 5 t (liveAt0_5 t), after0_5]
    rw [show (dats m 0 c).leavesExact 6 t = owns (c : Thread nD τ) (ms0_6 t) fullShare ((dats m 0 c).after 6 t) from leaves_live m c 6 t (liveAt0_6 t), after0_6]
    rw [show yV m c t = View.canon (runAt m c t h0).1 from dif_neg h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverB7 m c t h0)
    isplitl [H7]
    · iapply (leaves0_7 m c t hz); iexact H7
    · iapply (leaves0_8 m c t hz); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  by_cases hz : t.val = 0
  · obtain rfl : t = tZ := Fin.ext hz
    exact sound_bodyA m c
  · exact sound_bodyB m c t (by omega) hz

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 14 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch: every array at what the pipeline leaves in it, every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.Lookup.lean ====
/- One 32x128 tile of weights as the kernel builds it: the index word's bits pick a table, the gather reads it at the rest of
   the word. Both ways of looking up (along lanes, along rows) read the code word the index names. -/
module

public import proofs.«01_k».proof.Proof.Gen.KernelIdeal.Skeleton
public import Idealize.ShloMosaic.Lib.Pipeline.Value
public import Idealize.ShloMosaic.Lib.ValueIdx
public import Idealize.ShloMosaic.Lib.MatmulPlain

@[expose] public section

set_option maxRecDepth 16384

noncomputable section

namespace Cert.KernelIdeal.Gen

open Idealize.ShloMosaic Idealize.ShloMosaic.ValueIdx
open scoped BigOperators

variable {F : FTy → Type} [FloatOps F]

/-! ## The operations, named -/

/-- The positions a gather reads, from the masked index words. -/
def gidx (p : IVec S32x128 8) : IVec S32x128 32 :=
  shapeCast S32x128 (shapeCast S32x128x1 (extsi 32 p natLt_8_32) shapeCasts_S32x128_S32x128x1) shapeCasts_S32x128x1_S32x128
/-- A loaded table as 32x128 words. -/
def tabOf (v : IVec S1x1x1x32x128 8) : IVec S32x128 8 := shapeCast S32x128 v shapeCasts_S1x1x1x32x128_S32x128
/-- Where a bit of the index words is set. -/
def bitOf (w : IVec S32x128 8) (b : BitVec 8) : IVec S32x128 1 := cmpi .ne (andi w (broadcast S32x128 b)) (broadcast S32x128 0#8)
/-- A gather along lanes, done on 32-bit words. -/
def lane1 (p : IVec S32x128 8) (v : IVec S1x1x1x32x128 8) : IVec S32x128 8 :=
  trunci 8 (dynamicGather 1 (extsi 32 (tabOf v) natLt_8_32) (gidx p)) natLt_8_32
/-- The lookup along lanes: two tables of 128, the top bit picks. -/
def lanes (w : IVec S32x128 8) (v0 v1 : IVec S1x1x1x32x128 8) : IVec S32x128 8 :=
  select (bitOf w 128#8) (lane1 (andi w (broadcast S32x128 127#8)) v1) (lane1 (andi w (broadcast S32x128 127#8)) v0)
/-- A gather along rows. -/
def row1 (w : IVec S32x128 8) (v : IVec S1x1x1x32x128 8) : IVec S32x128 8 :=
  dynamicGather 0 (tabOf v) (gidx (andi w (broadcast S32x128 31#8)))
/-- The lookup along rows: eight tables of 32, the top three bits pick. -/
def rows (w : IVec S32x128 8) (v0 v1 v2 v3 v4 v5 v6 v7 : IVec S1x1x1x32x128 8) : IVec S32x128 8 :=
  select (bitOf w 128#8)
    (select (bitOf w 64#8) (select (bitOf w 32#8) (row1 w v7) (row1 w v6)) (select (bitOf w 32#8) (row1 w v5) (row1 w v4)))
    (select (bitOf w 64#8) (select (bitOf w 32#8) (row1 w v3) (row1 w v2)) (select (bitOf w 32#8) (row1 w v1) (row1 w v0)))
/-- The words looked up, times the block's scale. -/
def scaled (s : F .bf16) (w : IVec S32x128 8) : FVec F S32x128 .bf16 := mulf (sitofp .bf16 w) (broadcast S32x128 s)
/-- Index words as loaded. -/
def wordsOf (w : IVec S32x128 8) : IVec S32x128 8 := shapeCast S32x128 w shapeCasts_S32x128_S32x128

/-! ## What they read -/

theorem signExtend_small : ∀ x : BitVec 8, x.toNat < 128 → (x.signExtend 32).toNat = x.toNat := by decide +kernel

theorem cmpi_ne_zero : ∀ z : BitVec 8, Scalar.cmpi .ne z 0#8 = if z = 0#8 then 0#1 else 1#1 := by decide +kernel

theorem gidx_apply (p : IVec S32x128 8) (j : S32x128.Idx) : gidx p j = (p j).signExtend 32 := by
  unfold gidx
  rw [shapeCast_shapeCast]; rfl

theorem tabOf_apply (v : IVec S1x1x1x32x128 8) (i : Fin 32) (j : Fin 128) : tabOf v (ix2 i j) = v (ix5 0 0 0 i j) := by
  unfold tabOf
  refine shapeCast_apply v _ _ _ ?_
  rw [Shape.rowMajor_val_two, Shape.rowMajor_val_five]
  simp

theorem lane1_apply (p : IVec S32x128 8) (v : IVec S1x1x1x32x128 8) (i : Fin 32) (j : Fin 128) (hp : (p (ix2 i j)).toNat < 128) :
    lane1 p v (ix2 i j) = v (ix5 0 0 0 i ⟨(p (ix2 i j)).toNat, hp⟩) := by
  have hs := signExtend_small _ hp
  have hg : dynamicGather 1 (extsi 32 (tabOf v) natLt_8_32) (gidx p) (ix2 i j) = (tabOf v (ix2 i ⟨(p (ix2 i j)).toNat, hp⟩)).signExtend 32 := by
    unfold dynamicGather extsi
    congr 2
    funext b
    apply Fin.ext
    match b with
    | ⟨0, _⟩ => rfl
    | ⟨1, _⟩ =>
      show ((gidx p (ix2 i j)).toNat % 128) = _
      rw [gidx_apply, hs, Nat.mod_eq_of_lt hp]
  show (dynamicGather 1 (extsi 32 (tabOf v) natLt_8_32) (gidx p) (ix2 i j)).setWidth 8 = _
  rw [hg, tabOf_apply]
  generalize v _ = x
  revert x; decide +kernel

theorem row1_apply (w : IVec S32x128 8) (v : IVec S1x1x1x32x128 8) (i : Fin 32) (j : Fin 128) (hp : (w (ix2 i j) &&& 31#8).toNat < 32) :
    row1 w v (ix2 i j) = v (ix5 0 0 0 ⟨(w (ix2 i j) &&& 31#8).toNat, hp⟩ j) := by
  have hs := signExtend_small _ (hp.trans (by decide))
  rw [← tabOf_apply v]
  unfold row1 dynamicGather
  congr 1
  funext b
  apply Fin.ext
  match b with
  | ⟨0, _⟩ =>
    show ((gidx _ (ix2 i j)).toNat % 32) = _
    rw [gidx_apply]
    show ((w (ix2 i j) &&& 31#8).signExtend 32).toNat % 32 = _
    rw [hs, Nat.mod_eq_of_lt hp]
  | ⟨1, _⟩ => rfl

theorem bitOf_apply (w : IVec S32x128 8) (b : BitVec 8) (j : S32x128.Idx) {α : Type} (x y : α) :
    Scalar.select (bitOf w b j) x y = if w j &&& b = 0#8 then y else x := by
  show Scalar.select (Scalar.cmpi .ne (w j &&& b) 0#8) x y = _
  rw [cmpi_ne_zero]
  by_cases h : w j &&& b = 0#8
  · rw [if_pos h, if_pos h]; rfl
  · rw [if_neg h, if_neg h]; rfl

/-- A lookup along lanes reads the entry the index word names. -/
theorem lanes_apply (w : IVec S32x128 8) (v0 v1 : IVec S1x1x1x32x128 8) (T : ℕ → BitVec 8)
    (h0 : ∀ (i : Fin 32) (j : Fin 128), v0 (ix5 0 0 0 i j) = T j.val) (h1 : ∀ (i : Fin 32) (j : Fin 128), v1 (ix5 0 0 0 i j) = T (128 + j.val))
    (i : Fin 32) (j : Fin 128) : lanes w v0 v1 (ix2 i j) = T (w (ix2 i j)).toNat := by
  have key : ∀ x : BitVec 8, (x &&& 127#8).toNat < 128 ∧ x.toNat = if x &&& 128#8 = 0#8 then (x &&& 127#8).toNat else 128 + (x &&& 127#8).toNat := by
    decide +kernel
  obtain ⟨k1, k2⟩ := key (w (ix2 i j))
  show Scalar.select (bitOf w 128#8 (ix2 i j)) (lane1 _ v1 (ix2 i j)) (lane1 _ v0 (ix2 i j)) = _
  rw [bitOf_apply, lane1_apply _ _ _ _ k1, lane1_apply _ _ _ _ k1, h0, h1, k2]
  split <;> rfl

/-- A lookup along rows reads the entry the index word names. -/
theorem rows_apply (w : IVec S32x128 8) (v0 v1 v2 v3 v4 v5 v6 v7 : IVec S1x1x1x32x128 8) (T : ℕ → BitVec 8)
    (h0 : ∀ (i : Fin 32) (j : Fin 128), v0 (ix5 0 0 0 i j) = T i.val) (h1 : ∀ (i : Fin 32) (j : Fin 128), v1 (ix5 0 0 0 i j) = T (32 + i.val))
    (h2 : ∀ (i : Fin 32) (j : Fin 128), v2 (ix5 0 0 0 i j) = T (64 + i.val)) (h3 : ∀ (i : Fin 32) (j : Fin 128), v3 (ix5 0 0 0 i j) = T (96 + i.val))
    (h4 : ∀ (i : Fin 32) (j : Fin 128), v4 (ix5 0 0 0 i j) = T (128 + i.val)) (h5 : ∀ (i : Fin 32) (j : Fin 128), v5 (ix5 0 0 0 i j) = T (160 + i.val))
    (h6 : ∀ (i : Fin 32) (j : Fin 128), v6 (ix5 0 0 0 i j) = T (192 + i.val)) (h7 : ∀ (i : Fin 32) (j : Fin 128), v7 (ix5 0 0 0 i j) = T (224 + i.val))
    (i : Fin 32) (j : Fin 128) : rows w v0 v1 v2 v3 v4 v5 v6 v7 (ix2 i j) = T (w (ix2 i j)).toNat := by
  have key : ∀ x : BitVec 8, (x &&& 31#8).toNat < 32 ∧ x.toNat = (if x &&& 128#8 = 0#8 then
      (if x &&& 64#8 = 0#8 then (if x &&& 32#8 = 0#8 then (x &&& 31#8).toNat else 32 + (x &&& 31#8).toNat)
        else (if x &&& 32#8 = 0#8 then 64 + (x &&& 31#8).toNat else 96 + (x &&& 31#8).toNat))
      else (if x &&& 64#8 = 0#8 then (if x &&& 32#8 = 0#8 then 128 + (x &&& 31#8).toNat else 160 + (x &&& 31#8).toNat)
        else (if x &&& 32#8 = 0#8 then 192 + (x &&& 31#8).toNat else 224 + (x &&& 31#8).toNat))) := by
    decide +kernel
  obtain ⟨k1, k2⟩ := key (w (ix2 i j))
  show Scalar.select (bitOf w 128#8 (ix2 i j))
    (Scalar.select (bitOf w 64#8 (ix2 i j)) (Scalar.select (bitOf w 32#8 (ix2 i j)) (row1 w v7 (ix2 i j)) (row1 w v6 (ix2 i j)))
      (Scalar.select (bitOf w 32#8 (ix2 i j)) (row1 w v5 (ix2 i j)) (row1 w v4 (ix2 i j))))
    (Scalar.select (bitOf w 64#8 (ix2 i j)) (Scalar.select (bitOf w 32#8 (ix2 i j)) (row1 w v3 (ix2 i j)) (row1 w v2 (ix2 i j)))
      (Scalar.select (bitOf w 32#8 (ix2 i j)) (row1 w v1 (ix2 i j)) (row1 w v0 (ix2 i j)))) = _
  simp only [bitOf_apply, row1_apply _ _ _ _ k1, h0, h1, h2, h3, h4, h5, h6, h7]
  rw [k2]
  split <;> split <;> split <;> rfl

end Cert.KernelIdeal.Gen

end
-- ==== Proof.Block.lean ====
/- One block's step of the accumulation: sixteen tiles of weights set side by side, one matrix product, one addition. Read at an
   index it adds, over the block's 256 positions, the code times the code word's entry times the block's scale. -/
module

public import proofs.«01_k».proof.Proof.Lookup

@[expose] public section

set_option maxRecDepth 16384

noncomputable section

namespace Cert.KernelIdeal.Gen

open Idealize.ShloMosaic Idealize.ShloMosaic.ValueIdx
open scoped BigOperators

variable {F : FTy → Type} [FloatOps F]

/-- The two entries of a code word are laid out by halves of 64: a position's entry, -/
def parOf (k : ℕ) : ℕ := k / 64 % 2
/-- and its row of index words. -/
def rowOf (k : ℕ) : ℕ := k % 64 + 64 * (k / 128)

/-- 128 columns of weights: four tiles of first entries and four of second ones. -/
def colOf (e0 e1 e2 e3 o0 o1 o2 o3 : FVec F S32x128 .bf16) : FVec F S256x128 .bf16 :=
  concatenate S256x128 0 [⟨S32x128, e0⟩, ⟨S32x128, e1⟩, ⟨S32x128, o0⟩, ⟨S32x128, o1⟩, ⟨S32x128, e2⟩, ⟨S32x128, e3⟩, ⟨S32x128, o2⟩, ⟨S32x128, o3⟩]
    concatenates_S32x128_S32x128_S32x128_S32x128_S32x128_S32x128_S32x128_S32x128_S256x128_d0

/-- One step of the accumulation, on what the step loads: the scale, the index words (by columns, then rows), the tables read
    along lanes (by entry, then half), those read along rows (by entry, then group) and the codes. -/
def blockStep (s : F .bf16) (w00 w01 w02 w03 w10 w11 w12 w13 : IVec S32x128 8) (l00 l01 l10 l11 : IVec S1x1x1x32x128 8)
    (t00 t01 t02 t03 t04 t05 t06 t07 t10 t11 t12 t13 t14 t15 t16 t17 : IVec S1x1x1x32x128 8) (xb : FVec F S1x128x256 .bf16)
    (acc : FVec F S128x256 .f32) : FVec F S128x256 .f32 :=
  addf acc (matmul dot_S128x256_S256x256_S128x256_1_0_0_1_n_n none (shapeCast S128x256 xb shapeCasts_S1x128x256_S128x256)
    (concatenate S256x256 1
      [⟨S256x128, colOf (scaled s (lanes (wordsOf w00) l00 l01)) (scaled s (rows (wordsOf w01) t00 t01 t02 t03 t04 t05 t06 t07))
          (scaled s (lanes (wordsOf w02) l00 l01)) (scaled s (lanes (wordsOf w03) l00 l01))
          (scaled s (lanes (wordsOf w00) l10 l11)) (scaled s (rows (wordsOf w01) t10 t11 t12 t13 t14 t15 t16 t17))
          (scaled s (lanes (wordsOf w02) l10 l11)) (scaled s (lanes (wordsOf w03) l10 l11))⟩,
       ⟨S256x128, colOf (scaled s (rows (wordsOf w10) t00 t01 t02 t03 t04 t05 t06 t07)) (scaled s (lanes (wordsOf w11) l00 l01))
          (scaled s (rows (wordsOf w12) t00 t01 t02 t03 t04 t05 t06 t07)) (scaled s (lanes (wordsOf w13) l00 l01))
          (scaled s (rows (wordsOf w10) t10 t11 t12 t13 t14 t15 t16 t17)) (scaled s (lanes (wordsOf w11) l10 l11))
          (scaled s (rows (wordsOf w12) t10 t11 t12 t13 t14 t15 t16 t17)) (scaled s (lanes (wordsOf w13) l10 l11))⟩]
      concatenates_S256x128_S256x128_S256x256_d1)
    (constant S128x256 .f32 0x00000000#32))

theorem colOf_apply (e0 e1 e2 e3 o0 o1 o2 o3 : FVec F S32x128 .bf16) (G : ℕ → ℕ → Fin 128 → F .bf16)
    (he0 : ∀ i j, e0 (ix2 i j) = G 0 i.val j) (he1 : ∀ i j, e1 (ix2 i j) = G 0 (32 + i.val) j)
    (he2 : ∀ i j, e2 (ix2 i j) = G 0 (64 + i.val) j) (he3 : ∀ i j, e3 (ix2 i j) = G 0 (96 + i.val) j)
    (ho0 : ∀ i j, o0 (ix2 i j) = G 1 i.val j) (ho1 : ∀ i j, o1 (ix2 i j) = G 1 (32 + i.val) j)
    (ho2 : ∀ i j, o2 (ix2 i j) = G 1 (64 + i.val) j) (ho3 : ∀ i j, o3 (ix2 i j) = G 1 (96 + i.val) j)
    (k : Fin 256) (j : Fin 128) : colOf e0 e1 e2 e3 o0 o1 o2 o3 (ix2 k j) = G (parOf k.val) (rowOf k.val) j := by
  have hq : k.val / 32 < 8 := by have := k.isLt; omega
  have main : colOf e0 e1 e2 e3 o0 o1 o2 o3 (ix2 k j)
      = (![e0, e1, o0, o1, e2, e3, o2, o3] : Fin 8 → FVec F S32x128 .bf16) ⟨k.val / 32, hq⟩ (ix2 ⟨k.val % 32, Nat.mod_lt _ (by decide)⟩ j) := by
    refine concatenate_ofFn_apply (s₁ := S32x128) (0 : Fin S256x128.rank) (![e0, e1, o0, o1, e2, e3, o2, o3] : Fin 8 → FVec F S32x128 .bf16)
      concatenates_S32x128_S32x128_S32x128_S32x128_S32x128_S32x128_S32x128_S32x128_S256x128_d0 rfl 32 rfl (ix2 k j) ⟨k.val / 32, hq⟩ rfl _ rfl ?_
    intro b hb
    match b with
    | ⟨0, _⟩ => exact absurd rfl hb
    | ⟨1, _⟩ => rfl
  have aux : ∀ (q : ℕ) (hq : q < 8) (r : Fin 32), (![e0, e1, o0, o1, e2, e3, o2, o3] : Fin 8 → FVec F S32x128 .bf16) ⟨q, hq⟩ (ix2 r j)
      = G (parOf (32 * q + r.val)) (rowOf (32 * q + r.val)) j := by
    intro q hq r
    have hr := r.isLt
    have hp : parOf (32 * q + r.val) = q / 2 % 2 := by unfold parOf; omega
    have hw : rowOf (32 * q + r.val) = 32 * (q % 2 + 2 * (q / 4)) + r.val := by unfold rowOf; omega
    rw [hp, hw]
    interval_cases q
    · exact (he0 _ _).trans (by simp)
    · exact (he1 _ _).trans (by simp)
    · exact (ho0 _ _).trans (by simp)
    · exact (ho1 _ _).trans (by simp)
    · exact (he2 _ _).trans (by simp)
    · exact (he3 _ _).trans (by simp)
    · exact (ho2 _ _).trans (by simp)
    · exact (ho3 _ _).trans (by simp)
  rw [main, aux, show 32 * (k.val / 32) + k.val % 32 = k.val by omega]

theorem scaled_apply (s : Ideal .bf16) (w : IVec S32x128 8) (j : S32x128.Idx) :
    scaled (F := Ideal) s w j = (((w j).toInt : ℝ) : EReal) * s := rfl

/-- A step read at an index, when the loaded tables hold the block's code words `T` (by entry) and the loaded words are the
    block's index words `W`. -/
theorem blockStep_apply (s : Ideal .bf16) (w00 w01 w02 w03 w10 w11 w12 w13 : IVec S32x128 8) (l00 l01 l10 l11 : IVec S1x1x1x32x128 8)
    (t00 t01 t02 t03 t04 t05 t06 t07 t10 t11 t12 t13 t14 t15 t16 t17 : IVec S1x1x1x32x128 8) (xb : FVec Ideal S1x128x256 .bf16)
    (acc : FVec Ideal S128x256 .f32) (T : ℕ → ℕ → BitVec 8) (W : ℕ → ℕ → BitVec 8)
    (hw00 : ∀ (i : Fin 32) (j : Fin 128), w00 (ix2 i j) = W i.val j.val) (hw01 : ∀ (i : Fin 32) (j : Fin 128), w01 (ix2 i j) = W (32 + i.val) j.val)
    (hw02 : ∀ (i : Fin 32) (j : Fin 128), w02 (ix2 i j) = W (64 + i.val) j.val) (hw03 : ∀ (i : Fin 32) (j : Fin 128), w03 (ix2 i j) = W (96 + i.val) j.val)
    (hw10 : ∀ (i : Fin 32) (j : Fin 128), w10 (ix2 i j) = W i.val (128 + j.val)) (hw11 : ∀ (i : Fin 32) (j : Fin 128), w11 (ix2 i j) = W (32 + i.val) (128 + j.val))
    (hw12 : ∀ (i : Fin 32) (j : Fin 128), w12 (ix2 i j) = W (64 + i.val) (128 + j.val)) (hw13 : ∀ (i : Fin 32) (j : Fin 128), w13 (ix2 i j) = W (96 + i.val) (128 + j.val))
    (hl00 : ∀ (i : Fin 32) (j : Fin 128), l00 (ix5 0 0 0 i j) = T 0 j.val) (hl01 : ∀ (i : Fin 32) (j : Fin 128), l01 (ix5 0 0 0 i j) = T 0 (128 + j.val))
    (hl10 : ∀ (i : Fin 32) (j : Fin 128), l10 (ix5 0 0 0 i j) = T 1 j.val) (hl11 : ∀ (i : Fin 32) (j : Fin 128), l11 (ix5 0 0 0 i j) = T 1 (128 + j.val))
    (ht00 : ∀ (i : Fin 32) (j : Fin 128), t00 (ix5 0 0 0 i j) = T 0 i.val) (ht01 : ∀ (i : Fin 32) (j : Fin 128), t01 (ix5 0 0 0 i j) = T 0 (32 + i.val))
    (ht02 : ∀ (i : Fin 32) (j : Fin 128), t02 (ix5 0 0 0 i j) = T 0 (64 + i.val)) (ht03 : ∀ (i : Fin 32) (j : Fin 128), t03 (ix5 0 0 0 i j) = T 0 (96 + i.val))
    (ht04 : ∀ (i : Fin 32) (j : Fin 128), t04 (ix5 0 0 0 i j) = T 0 (128 + i.val)) (ht05 : ∀ (i : Fin 32) (j : Fin 128), t05 (ix5 0 0 0 i j) = T 0 (160 + i.val))
    (ht06 : ∀ (i : Fin 32) (j : Fin 128), t06 (ix5 0 0 0 i j) = T 0 (192 + i.val)) (ht07 : ∀ (i : Fin 32) (j : Fin 128), t07 (ix5 0 0 0 i j) = T 0 (224 + i.val))
    (ht10 : ∀ (i : Fin 32) (j : Fin 128), t10 (ix5 0 0 0 i j) = T 1 i.val) (ht11 : ∀ (i : Fin 32) (j : Fin 128), t11 (ix5 0 0 0 i j) = T 1 (32 + i.val))
    (ht12 : ∀ (i : Fin 32) (j : Fin 128), t12 (ix5 0 0 0 i j) = T 1 (64 + i.val)) (ht13 : ∀ (i : Fin 32) (j : Fin 128), t13 (ix5 0 0 0 i j) = T 1 (96 + i.val))
    (ht14 : ∀ (i : Fin 32) (j : Fin 128), t14 (ix5 0 0 0 i j) = T 1 (128 + i.val)) (ht15 : ∀ (i : Fin 32) (j : Fin 128), t15 (ix5 0 0 0 i j) = T 1 (160 + i.val))
    (ht16 : ∀ (i : Fin 32) (j : Fin 128), t16 (ix5 0 0 0 i j) = T 1 (192 + i.val)) (ht17 : ∀ (i : Fin 32) (j : Fin 128), t17 (ix5 0 0 0 i j) = T 1 (224 + i.val))
    (r : Fin 128) (n : Fin 256) :
    blockStep (F := Ideal) s w00 w01 w02 w03 w10 w11 w12 w13 l00 l01 l10 l11 t00 t01 t02 t03 t04 t05 t06 t07 t10 t11 t12 t13 t14 t15 t16 t17 xb acc (ix2 r n)
      = acc (ix2 r n) + ∑ k : Fin 256, xb (ix3 0 r k) * ((((T (parOf k.val) (W (rowOf k.val) n.val).toNat).toInt : ℝ) : EReal) * s) := by
  have hl0 (w : IVec S32x128 8) (i : Fin 32) (j : Fin 128) := lanes_apply w l00 l01 (T 0) hl00 hl01 i j
  have hl1 (w : IVec S32x128 8) (i : Fin 32) (j : Fin 128) := lanes_apply w l10 l11 (T 1) hl10 hl11 i j
  have hr0 (w : IVec S32x128 8) (i : Fin 32) (j : Fin 128) := rows_apply w t00 t01 t02 t03 t04 t05 t06 t07 (T 0) ht00 ht01 ht02 ht03 ht04 ht05 ht06 ht07 i j
  have hr1 (w : IVec S32x128 8) (i : Fin 32) (j : Fin 128) := rows_apply w t10 t11 t12 t13 t14 t15 t16 t17 (T 1) ht10 ht11 ht12 ht13 ht14 ht15 ht16 ht17 i j
  have hwd (w : IVec S32x128 8) : wordsOf w = w := shapeCast_self _ _
  show acc (ix2 r n) + FloatOps.matmul (F := Ideal) (DotDims.plain 128 256 256) none _ _ _ (ix2 r n) = _
  rw [Ideal.matmul_plain_apply]
  rw [show (constant S128x256 .f32 0x00000000#32 : FVec Ideal S128x256 .f32) (ix2 r n) = 0 from Idealize.ShloMosaic.Ideal.ofBits_zero_f32, zero_add]
  refine congrArg (acc (ix2 r n) + ·) (Finset.sum_congr rfl fun k _ => ?_)
  congr 1
  · refine shapeCast_apply xb _ _ _ ?_
    rw [Shape.rowMajor_val_two, Shape.rowMajor_val_three]; simp
  · by_cases hn : n.val < 128
    · refine (concatenate_pair_apply_left (s₁ := S256x128) (s₂ := S256x128) (t := S256x256) (1 : Fin S256x256.rank) _ _ _ (ix2 k n) rfl (ix2 k (⟨n.val, hn⟩ : Fin 128)) (fun b => by match b with | ⟨0, _⟩ => rfl | ⟨1, _⟩ => rfl)).trans ?_
      refine (colOf_apply (F := Ideal) _ _ _ _ _ _ _ _ (fun p q j => (((T p (W q j.val).toNat).toInt : ℝ) : EReal) * s) ?_ ?_ ?_ ?_ ?_ ?_ ?_ ?_ k _) <;>
        intro i j <;> simp only [scaled_apply, hl0, hl1, hr0, hr1, hwd, hw00, hw01, hw02, hw03]
    · refine (concatenate_pair_apply_right (s₁ := S256x128) (s₂ := S256x128) (t := S256x256) (1 : Fin S256x256.rank) _ _ _ (ix2 k n) rfl rfl (ix2 k (⟨n.val - 128, by have := n.isLt; omega⟩ : Fin 128))
        (fun b hb => by match b with | ⟨0, _⟩ => rfl | ⟨1, _⟩ => exact absurd rfl hb) (Nat.sub_add_cancel (Nat.le_of_not_lt hn))).trans ?_
      refine (colOf_apply (F := Ideal) _ _ _ _ _ _ _ _ (fun p q j => (((T p (W q (128 + j.val)).toNat).toInt : ℝ) : EReal) * s) ?_ ?_ ?_ ?_ ?_ ?_ ?_ ?_ k _).trans ?_
      case refine_9 => simp only; rw [show 128 + (n.val - 128) = n.val by omega]
      all_goals intro i j; simp only [scaled_apply, hl0, hl1, hr0, hr1, hwd, hw10, hw11, hw12, hw13]

end Cert.KernelIdeal.Gen

end
-- ==== Proof.Trips.lean ====
/- One trip of each of the four loops is one step of the accumulation on what the trip loads; over the sixteen trips the
   carried value gathers every block's sum. -/
module

public import proofs.«01_k».proof.Proof.Block
public import proofs.«01_k».proof.Proof.Gen.KernelIdeal.Loops
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

/-- What one block adds to the product at row `r` and column `n`: codes (`xv`) times code word entries (`cb`, by block, entry
    and word) at the index words `w`, times the block's scale. -/
def blockSum (x0 : Vec Ideal S1x16 .f32) (w : ℕ → ℕ → BitVec 8) (cb : ℕ → ℕ → ℕ → BitVec 8) (xv : Vec Ideal S16x128x256 .bf16)
    (r : Fin 128) (n : ℕ) (b : Fin 16) : EReal :=
  ∑ k : Fin 256, (show EReal from xv (ix3 b r k)) * ((((cb b.val (parOf k.val) (w (128 * b.val + rowOf k.val) n).toNat).toInt : ℝ) : EReal) * (show EReal from x0 (ix2 0 b)))

/-! ## The loads -/

theorem ld_words (v : View sig .tc .vmem S2048x1024 .i8) (X : v.ty.Contents (Elt Ideal)) (w : ℕ → ℕ → BitVec 8)
    (hw : ∀ (i : Fin 2048) (n : Fin 1024), v.read (Elt Ideal) X (ix2 i n) = w i.val n.val)
    (off : Fin 2 → ℕ) (inb : ∀ a, off a + S32x128.size a ≤ S2048x1024.size a) (a b : ℕ) (ho : off = ![a, b]) (i : Fin 32) (j : Fin 128)
    (p q : ℕ) (hp : a + i.val = p) (hq : b + j.val = q) :
    View.readAt (Elt Ideal) v (Rect.unit (s := S2048x1024) off S32x128.size inb).toLoadRect X (ix2 i j) = w p q := by
  subst ho hp hq
  have h0 : a + 32 ≤ 2048 := inb 0
  have h1 : b + 128 ≤ 1024 := inb 1
  refine (View.ld_unit_apply_of (v.read (Elt Ideal) X) _ _ inb (ix2 i j) (ix2 ⟨a + i.val, by omega⟩ ⟨b + j.val, by omega⟩) fun d => ?_).trans (hw _ _)
  match d with
  | ⟨0, _⟩ => rfl
  | ⟨1, _⟩ => rfl

theorem ld_lane (v : View sig .tc .vmem S16x2x2x32x128 .i8) (X : v.ty.Contents (Elt Ideal)) (cb : ℕ → ℕ → ℕ → BitVec 8)
    (hl : ∀ (b : Fin 16) (e h : Fin 2) (i : Fin 32) (j : Fin 128), v.read (Elt Ideal) X (ix5 b e h i j) = cb b.val e.val (128 * h.val + j.val))
    (off : Fin 5 → ℕ) (inb : ∀ a, off a + S1x1x1x32x128.size a ≤ S16x2x2x32x128.size a) (b e h : ℕ) (ho : off = ![b, e, h, 0, 0])
    (i : Fin 32) (j : Fin 128) (p : ℕ) (hp : 128 * h + j.val = p) :
    View.readAt (Elt Ideal) v (Rect.unit (s := S16x2x2x32x128) off S1x1x1x32x128.size inb).toLoadRect X (ix5 0 0 0 i j) = cb b e p := by
  subst ho hp
  have h0 : b + 1 ≤ 16 := inb 0
  have h1 : e + 1 ≤ 2 := inb 1
  have h2 : h + 1 ≤ 2 := inb 2
  refine (View.ld_unit_apply_of (v.read (Elt Ideal) X) _ _ inb (ix5 0 0 0 i j) (ix5 ⟨b, h0⟩ ⟨e, h1⟩ ⟨h, h2⟩ i j) fun d => ?_).trans (hl _ _ _ _ _)
  match d with
  | ⟨0, _⟩ => rfl
  | ⟨1, _⟩ => rfl
  | ⟨2, _⟩ => rfl
  | ⟨3, _⟩ => exact (Nat.zero_add _).symm
  | ⟨4, _⟩ => exact (Nat.zero_add _).symm

theorem ld_row (v : View sig .tc .vmem S16x2x8x32x128 .i8) (X : v.ty.Contents (Elt Ideal)) (cb : ℕ → ℕ → ℕ → BitVec 8)
    (ht : ∀ (b : Fin 16) (e : Fin 2) (g : Fin 8) (i : Fin 32) (j : Fin 128), v.read (Elt Ideal) X (ix5 b e g i j) = cb b.val e.val (32 * g.val + i.val))
    (off : Fin 5 → ℕ) (inb : ∀ a, off a + S1x1x1x32x128.size a ≤ S16x2x8x32x128.size a) (b e g : ℕ) (ho : off = ![b, e, g, 0, 0])
    (i : Fin 32) (j : Fin 128) (p : ℕ) (hp : 32 * g + i.val = p) :
    View.readAt (Elt Ideal) v (Rect.unit (s := S16x2x8x32x128) off S1x1x1x32x128.size inb).toLoadRect X (ix5 0 0 0 i j) = cb b e p := by
  subst ho hp
  have h0 : b + 1 ≤ 16 := inb 0
  have h1 : e + 1 ≤ 2 := inb 1
  have h2 : g + 1 ≤ 8 := inb 2
  refine (View.ld_unit_apply_of (v.read (Elt Ideal) X) _ _ inb (ix5 0 0 0 i j) (ix5 ⟨b, h0⟩ ⟨e, h1⟩ ⟨g, h2⟩ i j) fun d => ?_).trans (ht _ _ _ _ _)
  match d with
  | ⟨0, _⟩ => rfl
  | ⟨1, _⟩ => rfl
  | ⟨2, _⟩ => rfl
  | ⟨3, _⟩ => exact (Nat.zero_add _).symm
  | ⟨4, _⟩ => exact (Nat.zero_add _).symm

theorem ld_codes (v : View sig .tc .vmem S16x128x256 .bf16) (X : v.ty.Contents (Elt Ideal)) (xv : Vec Ideal S16x128x256 .bf16)
    (hx : v.read (Elt Ideal) X = xv) (off : Fin 3 → ℕ) (inb : ∀ a, off a + S1x128x256.size a ≤ S16x128x256.size a) (b : Fin 16)
    (ho : off = ![b.val, 0, 0]) (r : Fin 128) (k : Fin 256) :
    View.readAt (Elt Ideal) v (Rect.unit (s := S16x128x256) off S1x128x256.size inb).toLoadRect X (ix3 0 r k) = xv (ix3 b r k) := by
  subst ho hx
  refine View.ld_unit_apply_of (v.read (Elt Ideal) X) _ _ inb (ix3 0 r k) (ix3 b r k) fun d => ?_
  match d with
  | ⟨0, _⟩ => rfl
  | ⟨1, _⟩ => exact (Nat.zero_add _).symm
  | ⟨2, _⟩ => exact (Nat.zero_add _).symm

theorem ld_scale (v : View sig .tc .smem S1x16 .f32) (X : v.ty.Contents (Elt Ideal)) (x0 : Vec Ideal S1x16 .f32)
    (hx : v.read (Elt Ideal) X = x0) (off : Fin 2 → ℕ) (inb : ∀ a, off a + S1x1.size a ≤ S1x16.size a) (b : Fin 16)
    (ho : off = ![0, b.val]) (y : S1x1.Idx) :
    View.readAt (Elt Ideal) v (Rect.unit (s := S1x16) off S1x1.size inb).toLoadRect X y = x0 (ix2 0 b) := by
  subst ho hx
  refine View.ld_unit_apply_of (v.read (Elt Ideal) X) _ _ inb y (ix2 0 b) fun d => ?_
  match d with
  | ⟨0, _⟩ => have := (y 0).isLt; have h : (y 0).val < 1 := this; show 0 = 0 + (y 0).val; omega
  | ⟨1, _⟩ => have h : (y 1).val < 1 := (y 1).isLt; show b.val = b.val + (y 1).val; omega

/-- A value carried through `N` steps, each adding its own summand. -/
theorem fold_sum : ∀ {N : ℕ} (f : ℕ → EReal) (g : Fin N → EReal) (h : ∀ k : Fin N, f (k.val + 1) = f k.val + g k), f N = f 0 + ∑ k, g k
  | 0, f, g, h => by simp
  | N + 1, f, g, h => by
    rw [Fin.sum_univ_castSucc, ← add_assoc, ← fold_sum f (fun k : Fin N => g k.castSucc) fun k => h k.castSucc]
    exact h (Fin.last N)

/-! ## The trips -/

section
variable (𝒱 : Variants) (c : Dev nD) (bd : Option 𝒱.V) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole)
variable (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty)
variable (x0 : Vec Ideal S1x16 .f32) (w : ℕ → ℕ → BitVec 8) (cb : ℕ → ℕ → ℕ → BitVec 8) (xv : Vec Ideal S16x128x256 .bf16)
  (h1 : arg1.view.read (Elt Ideal) X1 = x0) (hw : ∀ (i : Fin 2048) (n : Fin 1024), arg3.view.read (Elt Ideal) X3 (ix2 i n) = w i.val n.val)
  (hl : ∀ (b : Fin 16) (e h : Fin 2) (i : Fin 32) (j : Fin 128), arg4.view.read (Elt Ideal) X4 (ix5 b e h i j) = cb b.val e.val (128 * h.val + j.val))
  (ht : ∀ (b : Fin 16) (e : Fin 2) (g : Fin 8) (i : Fin 32) (j : Fin 128), arg5.view.read (Elt Ideal) X5 (ix5 b e g i j) = cb b.val e.val (32 * g.val + i.val))
  (hx : arg10.view.read (Elt Ideal) X10 = xv)

include h1 hw hl ht hx in
/-- A trip of loop 1 adds its block's sum. -/
theorem trip1_apply (k : Fin k0_t1_loop.trips) (hk : k.val < 16) (acc : FVec Ideal S128x256 .f32) (r : Fin 128) (n : Fin 256) :
    tripR_k0_t1 (F := Ideal) 𝒱 c bd i arg1 harg1 arg2 harg2 arg3 harg3 arg4 harg4 arg5 harg5 arg6 harg6 arg7 harg7 arg8 harg8 arg9 harg9 arg10 harg10 arg11 harg11 X1 X3 X4 X5 X10 k acc (ix2 r n)
      = acc (ix2 r n) + blockSum x0 w cb xv r (0 + n.val) ⟨k.val, hk⟩ := by
  unfold tripR_k0_t1 trip_k0_t1
  dsimp only
  refine (blockStep_apply _ _ _ _ _ _ _ _ _ _ _ _ _ _ _ _ _ _ _ _ _ _ _ _ _ _ _ _ _ _ _
    (fun e p => cb k.val e p) (fun p q => w (128 * k.val + p) (0 + q))
    (fun i j => ld_words arg3.view X3 w hw _ _ _ _ (k0_off2_eq k ⟨0, by decide⟩) i j _ _ (by simp <;> omega) (by first | rfl | omega | simp))
    (fun i j => ld_words arg3.view X3 w hw _ _ _ _ (k0_off2_eq k ⟨1, by decide⟩) i j _ _ (by simp <;> omega) (by first | rfl | omega | simp))
    (fun i j => ld_words arg3.view X3 w hw _ _ _ _ (k0_off2_eq k ⟨2, by decide⟩) i j _ _ (by simp <;> omega) (by first | rfl | omega | simp))
    (fun i j => ld_words arg3.view X3 w hw _ _ _ _ (k0_off2_eq k ⟨3, by decide⟩) i j _ _ (by simp <;> omega) (by first | rfl | omega | simp))
    (fun i j => ld_words arg3.view X3 w hw _ _ _ _ (k0_off23_eq k ⟨0, by decide⟩) i j _ _ (by simp <;> omega) (by first | rfl | omega | simp))
    (fun i j => ld_words arg3.view X3 w hw _ _ _ _ (k0_off23_eq k ⟨1, by decide⟩) i j _ _ (by simp <;> omega) (by first | rfl | omega | simp))
    (fun i j => ld_words arg3.view X3 w hw _ _ _ _ (k0_off23_eq k ⟨2, by decide⟩) i j _ _ (by simp <;> omega) (by first | rfl | omega | simp))
    (fun i j => ld_words arg3.view X3 w hw _ _ _ _ (k0_off23_eq k ⟨3, by decide⟩) i j _ _ (by simp <;> omega) (by first | rfl | omega | simp))
    (fun i j => ld_lane arg4.view X4 cb hl _ _ _ _ _ (k0_off3_eq k) i j _ (by simp))
    (fun i j => ld_lane arg4.view X4 cb hl _ _ _ _ _ (k0_off4_eq k) i j _ (by simp))
    (fun i j => ld_lane arg4.view X4 cb hl _ _ _ _ _ (k0_off5_eq k) i j _ (by simp))
    (fun i j => ld_lane arg4.view X4 cb hl _ _ _ _ _ (k0_off6_eq k) i j _ (by simp))
    (fun i j => ld_row arg5.view X5 cb ht _ _ _ _ _ (k0_off7_eq k) i j _ (by simp))
    (fun i j => ld_row arg5.view X5 cb ht _ _ _ _ _ (k0_off8_eq k) i j _ (by simp))
    (fun i j => ld_row arg5.view X5 cb ht _ _ _ _ _ (k0_off9_eq k) i j _ (by simp))
    (fun i j => ld_row arg5.view X5 cb ht _ _ _ _ _ (k0_off10_eq k) i j _ (by simp))
    (fun i j => ld_row arg5.view X5 cb ht _ _ _ _ _ (k0_off11_eq k) i j _ (by simp))
    (fun i j => ld_row arg5.view X5 cb ht _ _ _ _ _ (k0_off12_eq k) i j _ (by simp))
    (fun i j => ld_row arg5.view X5 cb ht _ _ _ _ _ (k0_off13_eq k) i j _ (by simp))
    (fun i j => ld_row arg5.view X5 cb ht _ _ _ _ _ (k0_off14_eq k) i j _ (by simp))
    (fun i j => ld_row arg5.view X5 cb ht _ _ _ _ _ (k0_off15_eq k) i j _ (by simp))
    (fun i j => ld_row arg5.view X5 cb ht _ _ _ _ _ (k0_off16_eq k) i j _ (by simp))
    (fun i j => ld_row arg5.view X5 cb ht _ _ _ _ _ (k0_off17_eq k) i j _ (by simp))
    (fun i j => ld_row arg5.view X5 cb ht _ _ _ _ _ (k0_off18_eq k) i j _ (by simp))
    (fun i j => ld_row arg5.view X5 cb ht _ _ _ _ _ (k0_off19_eq k) i j _ (by simp))
    (fun i j => ld_row arg5.view X5 cb ht _ _ _ _ _ (k0_off20_eq k) i j _ (by simp))
    (fun i j => ld_row arg5.view X5 cb ht _ _ _ _ _ (k0_off21_eq k) i j _ (by simp))
    (fun i j => ld_row arg5.view X5 cb ht _ _ _ _ _ (k0_off22_eq k) i j _ (by simp)) r n).trans ?_
  refine congrArg (acc (ix2 r n) + ·) (Finset.sum_congr rfl fun j _ => ?_)
  congr 1
  · exact ld_codes arg10.view X10 xv hx _ _ ⟨k.val, hk⟩ (k0_off24_eq k) r j
  · congr 1
    exact ld_scale arg1.view X1 x0 h1 _ _ ⟨k.val, hk⟩ (k0_off1_eq k) _

include h1 hw hl ht hx in
/-- Loop 1's sixteen trips add the sixteen blocks' sums. -/
theorem st1_apply (init : FVec Ideal S128x256 .f32) (r : Fin 128) (n : Fin 256) :
    st_k0_t1 (F := Ideal) 𝒱 c bd i arg1 harg1 arg2 harg2 arg3 harg3 arg4 harg4 arg5 harg5 arg6 harg6 arg7 harg7 arg8 harg8 arg9 harg9 arg10 harg10 arg11 harg11 X1 X3 X4 X5 X10 init 16 (ix2 r n)
      = init (ix2 r n) + ∑ b : Fin 16, blockSum x0 w cb xv r (0 + n.val) b := by
  refine fold_sum (fun k => (show EReal from st_k0_t1 (F := Ideal) 𝒱 c bd i arg1 harg1 arg2 harg2 arg3 harg3 arg4 harg4 arg5 harg5 arg6 harg6 arg7 harg7 arg8 harg8 arg9 harg9 arg10 harg10 arg11 harg11 X1 X3 X4 X5 X10 init k (ix2 r n))) _ fun b => ?_
  have hb : b.val < k0_t1_loop.trips := lt_of_lt_of_eq b.isLt (by decide +kernel)
  refine (congrFun (st_k0_t1_succ (F := Ideal) 𝒱 c bd i arg1 harg1 arg2 harg2 arg3 harg3 arg4 harg4 arg5 harg5 arg6 harg6 arg7 harg7 arg8 harg8 arg9 harg9 arg10 harg10 arg11 harg11 X1 X3 X4 X5 X10 init ⟨b.val, hb⟩) (ix2 r n)).trans ?_
  exact trip1_apply 𝒱 c bd i arg1 harg1 arg2 harg2 arg3 harg3 arg4 harg4 arg5 harg5 arg6 harg6 arg7 harg7 arg8 harg8 arg9 harg9 arg10 harg10 arg11 harg11 X1 X3 X4 X5 X10 x0 w cb xv h1 hw hl ht hx ⟨b.val, hb⟩ b.isLt _ r n

include h1 hw hl ht hx in
/-- A trip of loop 2 adds its block's sum. -/
theorem trip2_apply (k : Fin k0_t2_loop.trips) (hk : k.val < 16) (acc : FVec Ideal S128x256 .f32) (r : Fin 128) (n : Fin 256) :
    tripR_k0_t2 (F := Ideal) 𝒱 c bd i arg1 harg1 arg2 harg2 arg3 harg3 arg4 harg4 arg5 harg5 arg6 harg6 arg7 harg7 arg8 harg8 arg9 harg9 arg10 harg10 arg11 harg11 X1 X3 X4 X5 X10 k acc (ix2 r n)
      = acc (ix2 r n) + blockSum x0 w cb xv r (256 + n.val) ⟨k.val, hk⟩ := by
  unfold tripR_k0_t2 trip_k0_t2
  dsimp only
  refine (blockStep_apply _ _ _ _ _ _ _ _ _ _ _ _ _ _ _ _ _ _ _ _ _ _ _ _ _ _ _ _ _ _ _
    (fun e p => cb k.val e p) (fun p q => w (128 * k.val + p) (256 + q))
    (fun i j => ld_words arg3.view X3 w hw _ _ _ _ (k0_off26_eq k ⟨0, by decide⟩) i j _ _ (by simp <;> omega) (by first | rfl | omega | simp))
    (fun i j => ld_words arg3.view X3 w hw _ _ _ _ (k0_off26_eq k ⟨1, by decide⟩) i j _ _ (by simp <;> omega) (by first | rfl | omega | simp))
    (fun i j => ld_words arg3.view X3 w hw _ _ _ _ (k0_off26_eq k ⟨2, by decide⟩) i j _ _ (by simp <;> omega) (by first | rfl | omega | simp))
    (fun i j => ld_words arg3.view X3 w hw _ _ _ _ (k0_off26_eq k ⟨3, by decide⟩) i j _ _ (by simp <;> omega) (by first | rfl | omega | simp))
    (fun i j => ld_words arg3.view X3 w hw _ _ _ _ (k0_off47_eq k ⟨0, by decide⟩) i j _ _ (by simp <;> omega) (by first | rfl | omega | simp))
    (fun i j => ld_words arg3.view X3 w hw _ _ _ _ (k0_off47_eq k ⟨1, by decide⟩) i j _ _ (by simp <;> omega) (by first | rfl | omega | simp))
    (fun i j => ld_words arg3.view X3 w hw _ _ _ _ (k0_off47_eq k ⟨2, by decide⟩) i j _ _ (by simp <;> omega) (by first | rfl | omega | simp))
    (fun i j => ld_words arg3.view X3 w hw _ _ _ _ (k0_off47_eq k ⟨3, by decide⟩) i j _ _ (by simp <;> omega) (by first | rfl | omega | simp))
    (fun i j => ld_lane arg4.view X4 cb hl _ _ _ _ _ (k0_off27_eq k) i j _ (by simp))
    (fun i j => ld_lane arg4.view X4 cb hl _ _ _ _ _ (k0_off28_eq k) i j _ (by simp))
    (fun i j => ld_lane arg4.view X4 cb hl _ _ _ _ _ (k0_off29_eq k) i j _ (by simp))
    (fun i j => ld_lane arg4.view X4 cb hl _ _ _ _ _ (k0_off30_eq k) i j _ (by simp))
    (fun i j => ld_row arg5.view X5 cb ht _ _ _ _ _ (k0_off31_eq k) i j _ (by simp))
    (fun i j => ld_row arg5.view X5 cb ht _ _ _ _ _ (k0_off32_eq k) i j _ (by simp))
    (fun i j => ld_row arg5.view X5 cb ht _ _ _ _ _ (k0_off33_eq k) i j _ (by simp))
    (fun i j => ld_row arg5.view X5 cb ht _ _ _ _ _ (k0_off34_eq k) i j _ (by simp))
    (fun i j => ld_row arg5.view X5 cb ht _ _ _ _ _ (k0_off35_eq k) i j _ (by simp))
    (fun i j => ld_row arg5.view X5 cb ht _ _ _ _ _ (k0_off36_eq k) i j _ (by simp))
    (fun i j => ld_row arg5.view X5 cb ht _ _ _ _ _ (k0_off37_eq k) i j _ (by simp))
    (fun i j => ld_row arg5.view X5 cb ht _ _ _ _ _ (k0_off38_eq k) i j _ (by simp))
    (fun i j => ld_row arg5.view X5 cb ht _ _ _ _ _ (k0_off39_eq k) i j _ (by simp))
    (fun i j => ld_row arg5.view X5 cb ht _ _ _ _ _ (k0_off40_eq k) i j _ (by simp))
    (fun i j => ld_row arg5.view X5 cb ht _ _ _ _ _ (k0_off41_eq k) i j _ (by simp))
    (fun i j => ld_row arg5.view X5 cb ht _ _ _ _ _ (k0_off42_eq k) i j _ (by simp))
    (fun i j => ld_row arg5.view X5 cb ht _ _ _ _ _ (k0_off43_eq k) i j _ (by simp))
    (fun i j => ld_row arg5.view X5 cb ht _ _ _ _ _ (k0_off44_eq k) i j _ (by simp))
    (fun i j => ld_row arg5.view X5 cb ht _ _ _ _ _ (k0_off45_eq k) i j _ (by simp))
    (fun i j => ld_row arg5.view X5 cb ht _ _ _ _ _ (k0_off46_eq k) i j _ (by simp)) r n).trans ?_
  refine congrArg (acc (ix2 r n) + ·) (Finset.sum_congr rfl fun j _ => ?_)
  congr 1
  · exact ld_codes arg10.view X10 xv hx _ _ ⟨k.val, hk⟩ (k0_off48_eq k) r j
  · congr 1
    exact ld_scale arg1.view X1 x0 h1 _ _ ⟨k.val, hk⟩ (k0_off25_eq k) _

include h1 hw hl ht hx in
/-- Loop 2's sixteen trips add the sixteen blocks' sums. -/
theorem st2_apply (init : FVec Ideal S128x256 .f32) (r : Fin 128) (n : Fin 256) :
    st_k0_t2 (F := Ideal) 𝒱 c bd i arg1 harg1 arg2 harg2 arg3 harg3 arg4 harg4 arg5 harg5 arg6 harg6 arg7 harg7 arg8 harg8 arg9 harg9 arg10 harg10 arg11 harg11 X1 X3 X4 X5 X10 init 16 (ix2 r n)
      = init (ix2 r n) + ∑ b : Fin 16, blockSum x0 w cb xv r (256 + n.val) b := by
  refine fold_sum (fun k => (show EReal from st_k0_t2 (F := Ideal) 𝒱 c bd i arg1 harg1 arg2 harg2 arg3 harg3 arg4 harg4 arg5 harg5 arg6 harg6 arg7 harg7 arg8 harg8 arg9 harg9 arg10 harg10 arg11 harg11 X1 X3 X4 X5 X10 init k (ix2 r n))) _ fun b => ?_
  have hb : b.val < k0_t2_loop.trips := lt_of_lt_of_eq b.isLt (by decide +kernel)
  refine (congrFun (st_k0_t2_succ (F := Ideal) 𝒱 c bd i arg1 harg1 arg2 harg2 arg3 harg3 arg4 harg4 arg5 harg5 arg6 harg6 arg7 harg7 arg8 harg8 arg9 harg9 arg10 harg10 arg11 harg11 X1 X3 X4 X5 X10 init ⟨b.val, hb⟩) (ix2 r n)).trans ?_
  exact trip2_apply 𝒱 c bd i arg1 harg1 arg2 harg2 arg3 harg3 arg4 harg4 arg5 harg5 arg6 harg6 arg7 harg7 arg8 harg8 arg9 harg9 arg10 harg10 arg11 harg11 X1 X3 X4 X5 X10 x0 w cb xv h1 hw hl ht hx ⟨b.val, hb⟩ b.isLt _ r n

include h1 hw hl ht hx in
/-- A trip of loop 3 adds its block's sum. -/
theorem trip3_apply (k : Fin k0_t3_loop.trips) (hk : k.val < 16) (acc : FVec Ideal S128x256 .f32) (r : Fin 128) (n : Fin 256) :
    tripR_k0_t3 (F := Ideal) 𝒱 c bd i arg1 harg1 arg2 harg2 arg3 harg3 arg4 harg4 arg5 harg5 arg6 harg6 arg7 harg7 arg8 harg8 arg9 harg9 arg10 harg10 arg11 harg11 0#32 X1 X3 X4 X5 X10 k acc (ix2 r n)
      = acc (ix2 r n) + blockSum x0 w cb xv r (512 + n.val) ⟨k.val, hk⟩ := by
  unfold tripR_k0_t3 trip_k0_t3
  dsimp only
  refine (blockStep_apply _ _ _ _ _ _ _ _ _ _ _ _ _ _ _ _ _ _ _ _ _ _ _ _ _ _ _ _ _ _ _
    (fun e p => cb k.val e p) (fun p q => w (128 * k.val + p) (512 + q))
    (fun i j => ld_words arg3.view X3 w hw _ _ _ _ (k0_off50_eq k ⟨0, by decide⟩) i j _ _ (by simp <;> omega) (by first | rfl | omega | simp))
    (fun i j => ld_words arg3.view X3 w hw _ _ _ _ (k0_off50_eq k ⟨1, by decide⟩) i j _ _ (by simp <;> omega) (by first | rfl | omega | simp))
    (fun i j => ld_words arg3.view X3 w hw _ _ _ _ (k0_off50_eq k ⟨2, by decide⟩) i j _ _ (by simp <;> omega) (by first | rfl | omega | simp))
    (fun i j => ld_words arg3.view X3 w hw _ _ _ _ (k0_off50_eq k ⟨3, by decide⟩) i j _ _ (by simp <;> omega) (by first | rfl | omega | simp))
    (fun i j => ld_words arg3.view X3 w hw _ _ _ _ (k0_off71_eq k ⟨0, by decide⟩) i j _ _ (by simp <;> omega) (by first | rfl | omega | simp))
    (fun i j => ld_words arg3.view X3 w hw _ _ _ _ (k0_off71_eq k ⟨1, by decide⟩) i j _ _ (by simp <;> omega) (by first | rfl | omega | simp))
    (fun i j => ld_words arg3.view X3 w hw _ _ _ _ (k0_off71_eq k ⟨2, by decide⟩) i j _ _ (by simp <;> omega) (by first | rfl | omega | simp))
    (fun i j => ld_words arg3.view X3 w hw _ _ _ _ (k0_off71_eq k ⟨3, by decide⟩) i j _ _ (by simp <;> omega) (by first | rfl | omega | simp))
    (fun i j => ld_lane arg4.view X4 cb hl _ _ _ _ _ (k0_off51_eq k) i j _ (by simp))
    (fun i j => ld_lane arg4.view X4 cb hl _ _ _ _ _ (k0_off52_eq k) i j _ (by simp))
    (fun i j => ld_lane arg4.view X4 cb hl _ _ _ _ _ (k0_off53_eq k) i j _ (by simp))
    (fun i j => ld_lane arg4.view X4 cb hl _ _ _ _ _ (k0_off54_eq k) i j _ (by simp))
    (fun i j => ld_row arg5.view X5 cb ht _ _ _ _ _ (k0_off55_eq k) i j _ (by simp))
    (fun i j => ld_row arg5.view X5 cb ht _ _ _ _ _ (k0_off56_eq k) i j _ (by simp))
    (fun i j => ld_row arg5.view X5 cb ht _ _ _ _ _ (k0_off57_eq k) i j _ (by simp))
    (fun i j => ld_row arg5.view X5 cb ht _ _ _ _ _ (k0_off58_eq k) i j _ (by simp))
    (fun i j => ld_row arg5.view X5 cb ht _ _ _ _ _ (k0_off59_eq k) i j _ (by simp))
    (fun i j => ld_row arg5.view X5 cb ht _ _ _ _ _ (k0_off60_eq k) i j _ (by simp))
    (fun i j => ld_row arg5.view X5 cb ht _ _ _ _ _ (k0_off61_eq k) i j _ (by simp))
    (fun i j => ld_row arg5.view X5 cb ht _ _ _ _ _ (k0_off62_eq k) i j _ (by simp))
    (fun i j => ld_row arg5.view X5 cb ht _ _ _ _ _ (k0_off63_eq k) i j _ (by simp))
    (fun i j => ld_row arg5.view X5 cb ht _ _ _ _ _ (k0_off64_eq k) i j _ (by simp))
    (fun i j => ld_row arg5.view X5 cb ht _ _ _ _ _ (k0_off65_eq k) i j _ (by simp))
    (fun i j => ld_row arg5.view X5 cb ht _ _ _ _ _ (k0_off66_eq k) i j _ (by simp))
    (fun i j => ld_row arg5.view X5 cb ht _ _ _ _ _ (k0_off67_eq k) i j _ (by simp))
    (fun i j => ld_row arg5.view X5 cb ht _ _ _ _ _ (k0_off68_eq k) i j _ (by simp))
    (fun i j => ld_row arg5.view X5 cb ht _ _ _ _ _ (k0_off69_eq k) i j _ (by simp))
    (fun i j => ld_row arg5.view X5 cb ht _ _ _ _ _ (k0_off70_eq k) i j _ (by simp)) r n).trans ?_
  refine congrArg (acc (ix2 r n) + ·) (Finset.sum_congr rfl fun j _ => ?_)
  congr 1
  · exact ld_codes arg10.view X10 xv hx _ _ ⟨k.val, hk⟩ (k0_off72_eq k) r j
  · congr 1
    exact ld_scale arg1.view X1 x0 h1 _ _ ⟨k.val, hk⟩ (k0_off49_eq k) _

include h1 hw hl ht hx in
/-- Loop 3's sixteen trips add the sixteen blocks' sums. -/
theorem st3_apply (init : FVec Ideal S128x256 .f32) (r : Fin 128) (n : Fin 256) :
    st_k0_t3 (F := Ideal) 𝒱 c bd i arg1 harg1 arg2 harg2 arg3 harg3 arg4 harg4 arg5 harg5 arg6 harg6 arg7 harg7 arg8 harg8 arg9 harg9 arg10 harg10 arg11 harg11 0#32 X1 X3 X4 X5 X10 init 16 (ix2 r n)
      = init (ix2 r n) + ∑ b : Fin 16, blockSum x0 w cb xv r (512 + n.val) b := by
  refine fold_sum (fun k => (show EReal from st_k0_t3 (F := Ideal) 𝒱 c bd i arg1 harg1 arg2 harg2 arg3 harg3 arg4 harg4 arg5 harg5 arg6 harg6 arg7 harg7 arg8 harg8 arg9 harg9 arg10 harg10 arg11 harg11 0#32 X1 X3 X4 X5 X10 init k (ix2 r n))) _ fun b => ?_
  have hb : b.val < k0_t3_loop.trips := lt_of_lt_of_eq b.isLt (by decide +kernel)
  refine (congrFun (st_k0_t3_succ (F := Ideal) 𝒱 c bd i arg1 harg1 arg2 harg2 arg3 harg3 arg4 harg4 arg5 harg5 arg6 harg6 arg7 harg7 arg8 harg8 arg9 harg9 arg10 harg10 arg11 harg11 0#32 X1 X3 X4 X5 X10 init ⟨b.val, hb⟩) (ix2 r n)).trans ?_
  exact trip3_apply 𝒱 c bd i arg1 harg1 arg2 harg2 arg3 harg3 arg4 harg4 arg5 harg5 arg6 harg6 arg7 harg7 arg8 harg8 arg9 harg9 arg10 harg10 arg11 harg11 X1 X3 X4 X5 X10 x0 w cb xv h1 hw hl ht hx ⟨b.val, hb⟩ b.isLt _ r n

include h1 hw hl ht hx in
/-- A trip of loop 4 adds its block's sum. -/
theorem trip4_apply (k : Fin k0_t4_loop.trips) (hk : k.val < 16) (acc : FVec Ideal S128x256 .f32) (r : Fin 128) (n : Fin 256) :
    tripR_k0_t4 (F := Ideal) 𝒱 c bd i arg1 harg1 arg2 harg2 arg3 harg3 arg4 harg4 arg5 harg5 arg6 harg6 arg7 harg7 arg8 harg8 arg9 harg9 arg10 harg10 arg11 harg11 X1 X3 X4 X5 X10 k acc (ix2 r n)
      = acc (ix2 r n) + blockSum x0 w cb xv r (768 + n.val) ⟨k.val, hk⟩ := by
  unfold tripR_k0_t4 trip_k0_t4
  dsimp only
  refine (blockStep_apply _ _ _ _ _ _ _ _ _ _ _ _ _ _ _ _ _ _ _ _ _ _ _ _ _ _ _ _ _ _ _
    (fun e p => cb k.val e p) (fun p q => w (128 * k.val + p) (768 + q))
    (fun i j => ld_words arg3.view X3 w hw _ _ _ _ (k0_off74_eq k ⟨0, by decide⟩) i j _ _ (by simp <;> omega) (by first | rfl | omega | simp))
    (fun i j => ld_words arg3.view X3 w hw _ _ _ _ (k0_off74_eq k ⟨1, by decide⟩) i j _ _ (by simp <;> omega) (by first | rfl | omega | simp))
    (fun i j => ld_words arg3.view X3 w hw _ _ _ _ (k0_off74_eq k ⟨2, by decide⟩) i j _ _ (by simp <;> omega) (by first | rfl | omega | simp))
    (fun i j => ld_words arg3.view X3 w hw _ _ _ _ (k0_off74_eq k ⟨3, by decide⟩) i j _ _ (by simp <;> omega) (by first | rfl | omega | simp))
    (fun i j => ld_words arg3.view X3 w hw _ _ _ _ (k0_off95_eq k ⟨0, by decide⟩) i j _ _ (by simp <;> omega) (by first | rfl | omega | simp))
    (fun i j => ld_words arg3.view X3 w hw _ _ _ _ (k0_off95_eq k ⟨1, by decide⟩) i j _ _ (by simp <;> omega) (by first | rfl | omega | simp))
    (fun i j => ld_words arg3.view X3 w hw _ _ _ _ (k0_off95_eq k ⟨2, by decide⟩) i j _ _ (by simp <;> omega) (by first | rfl | omega | simp))
    (fun i j => ld_words arg3.view X3 w hw _ _ _ _ (k0_off95_eq k ⟨3, by decide⟩) i j _ _ (by simp <;> omega) (by first | rfl | omega | simp))
    (fun i j => ld_lane arg4.view X4 cb hl _ _ _ _ _ (k0_off75_eq k) i j _ (by simp))
    (fun i j => ld_lane arg4.view X4 cb hl _ _ _ _ _ (k0_off76_eq k) i j _ (by simp))
    (fun i j => ld_lane arg4.view X4 cb hl _ _ _ _ _ (k0_off77_eq k) i j _ (by simp))
    (fun i j => ld_lane arg4.view X4 cb hl _ _ _ _ _ (k0_off78_eq k) i j _ (by simp))
    (fun i j => ld_row arg5.view X5 cb ht _ _ _ _ _ (k0_off79_eq k) i j _ (by simp))
    (fun i j => ld_row arg5.view X5 cb ht _ _ _ _ _ (k0_off80_eq k) i j _ (by simp))
    (fun i j => ld_row arg5.view X5 cb ht _ _ _ _ _ (k0_off81_eq k) i j _ (by simp))
    (fun i j => ld_row arg5.view X5 cb ht _ _ _ _ _ (k0_off82_eq k) i j _ (by simp))
    (fun i j => ld_row arg5.view X5 cb ht _ _ _ _ _ (k0_off83_eq k) i j _ (by simp))
    (fun i j => ld_row arg5.view X5 cb ht _ _ _ _ _ (k0_off84_eq k) i j _ (by simp))
    (fun i j => ld_row arg5.view X5 cb ht _ _ _ _ _ (k0_off85_eq k) i j _ (by simp))
    (fun i j => ld_row arg5.view X5 cb ht _ _ _ _ _ (k0_off86_eq k) i j _ (by simp))
    (fun i j => ld_row arg5.view X5 cb ht _ _ _ _ _ (k0_off87_eq k) i j _ (by simp))
    (fun i j => ld_row arg5.view X5 cb ht _ _ _ _ _ (k0_off88_eq k) i j _ (by simp))
    (fun i j => ld_row arg5.view X5 cb ht _ _ _ _ _ (k0_off89_eq k) i j _ (by simp))
    (fun i j => ld_row arg5.view X5 cb ht _ _ _ _ _ (k0_off90_eq k) i j _ (by simp))
    (fun i j => ld_row arg5.view X5 cb ht _ _ _ _ _ (k0_off91_eq k) i j _ (by simp))
    (fun i j => ld_row arg5.view X5 cb ht _ _ _ _ _ (k0_off92_eq k) i j _ (by simp))
    (fun i j => ld_row arg5.view X5 cb ht _ _ _ _ _ (k0_off93_eq k) i j _ (by simp))
    (fun i j => ld_row arg5.view X5 cb ht _ _ _ _ _ (k0_off94_eq k) i j _ (by simp)) r n).trans ?_
  refine congrArg (acc (ix2 r n) + ·) (Finset.sum_congr rfl fun j _ => ?_)
  congr 1
  · exact ld_codes arg10.view X10 xv hx _ _ ⟨k.val, hk⟩ (k0_off96_eq k) r j
  · congr 1
    exact ld_scale arg1.view X1 x0 h1 _ _ ⟨k.val, hk⟩ (k0_off73_eq k) _

include h1 hw hl ht hx in
/-- Loop 4's sixteen trips add the sixteen blocks' sums. -/
theorem st4_apply (init : FVec Ideal S128x256 .f32) (r : Fin 128) (n : Fin 256) :
    st_k0_t4 (F := Ideal) 𝒱 c bd i arg1 harg1 arg2 harg2 arg3 harg3 arg4 harg4 arg5 harg5 arg6 harg6 arg7 harg7 arg8 harg8 arg9 harg9 arg10 harg10 arg11 harg11 X1 X3 X4 X5 X10 init 16 (ix2 r n)
      = init (ix2 r n) + ∑ b : Fin 16, blockSum x0 w cb xv r (768 + n.val) b := by
  refine fold_sum (fun k => (show EReal from st_k0_t4 (F := Ideal) 𝒱 c bd i arg1 harg1 arg2 harg2 arg3 harg3 arg4 harg4 arg5 harg5 arg6 harg6 arg7 harg7 arg8 harg8 arg9 harg9 arg10 harg10 arg11 harg11 X1 X3 X4 X5 X10 init k (ix2 r n))) _ fun b => ?_
  have hb : b.val < k0_t4_loop.trips := lt_of_lt_of_eq b.isLt (by decide +kernel)
  refine (congrFun (st_k0_t4_succ (F := Ideal) 𝒱 c bd i arg1 harg1 arg2 harg2 arg3 harg3 arg4 harg4 arg5 harg5 arg6 harg6 arg7 harg7 arg8 harg8 arg9 harg9 arg10 harg10 arg11 harg11 X1 X3 X4 X5 X10 init ⟨b.val, hb⟩) (ix2 r n)).trans ?_
  exact trip4_apply 𝒱 c bd i arg1 harg1 arg2 harg2 arg3 harg3 arg4 harg4 arg5 harg5 arg6 harg6 arg7 harg7 arg8 harg8 arg9 harg9 arg10 harg10 arg11 harg11 X1 X3 X4 X5 X10 x0 w cb xv h1 hw hl ht hx ⟨b.val, hb⟩ b.isLt _ r n

end

end Cert.KernelIdeal.Gen

end
-- ==== Proof.Runs.lean ====
/- What the runs of the kernel's body share: its one branch condition in closed form, the windows that are never idle,
   the staging and scratch buffers the pipeline passes, and the scratch buffers as the body is handed them. -/
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle: the body stores into it at every point. -/
theorem liveAt0_6 : ∀ t : Fin cfg0.N, cfg0.idle 6 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .smem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2x2x32x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2x8x32x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S16x128x256 .bf16 := Memref.whole cc0_scratch0
abbrev scM0_1 : Memref sig .tc .vmem S128x128 .f32 := Memref.whole cc0_scratch1
/-- The scratch `arg10` the kernel carries between points, as a view: what it holds is stated through it. -/
abbrev VS0_0 : View sig .tc .vmem S16x128x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunA.lean ====
/- The kernel body's run at the first grid point: it quantises the activations into the scratch buffers and the two
   outputs that carry codes and scales, then computes the first column block of the product. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs' at their contents, the body at the first point hands back each output's and
    each scratch buffer with the pieces the run finds written into it (last first): `L7` the product block, `L8` the
    codes, `L9` the scales, `L10` the regrouped codes, `L11` the scales spread over lanes. -/
noncomputable def kernelRun0_A (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole) (hc0 : cond0_0 i)
    (x0 : Vec F S1x16 .f32) (x1 : Vec F S128x4096 .bf16) (x2 : Vec F S2048x1024 .i8) (x3 : Vec F S16x2x2x32x128 .i8) (x4 : Vec F S16x2x8x32x128 .i8) (x5 : Vec F S1x1024 .f32)
    : Σ' (L7 : List (View.Piece (Elt F) S128x1024 .bf16)), Σ' (L8 : List (View.Piece (Elt F) S128x4096 .i8)), Σ' (L9 : List (View.Piece (Elt F) S1x128 .f32)), Σ' (L10 : List (View.Piece (Elt F) S16x128x256 .bf16)), Σ' (L11 : List (View.Piece (Elt F) S128x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc0__body_eq_skeleton]; unfold cc0__body_skel
    simp only [k0_part106_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Gen

end
-- ==== Proof.RunB.lean ====
/- The kernel body's run at every grid point but the first: it reads the two scratch buffers the first point filled,
   and computes its column block of the product. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs', the codes', the scales' and both scratch buffers at their contents, the body
    at a later point hands all of these back as they were, and the product block with the pieces `L7` the run finds. -/
noncomputable def kernelRun0_B (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole) (hc0 : ¬cond0_0 i)
    (x0 : Vec F S1x16 .f32) (x1 : Vec F S128x4096 .bf16) (x2 : Vec F S2048x1024 .i8) (x3 : Vec F S16x2x2x32x128 .i8) (x4 : Vec F S16x2x8x32x128 .i8) (x5 : Vec F S1x1024 .f32) (xo7 : Vec F S128x4096 .i8) (xo8 : Vec F S1x128 .f32) (xs0 : Vec F S16x128x256 .bf16) (xs1 : Vec F S128x128 .f32)
    : Σ' (L7 : List (View.Piece (Elt F) S128x1024 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xo7 ∗ owns (c : Thread nD τ) arg9 fullShare xo8 ∗ owns (c : Thread nD τ) arg10 fullShare xs0 ∗ owns (c : Thread nD τ) arg11 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  refine ⟨?_, fun E K => ?run⟩
  case run =>
    simp only [cc0__body_eq_skeleton]; unfold cc0__body_skel
    simp only [k0_part106_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexists _; isplitr; · ipureintro; exact harg11.read_unread _
    iexact HS1

end Cert.KernelIdeal.Gen

end
-- ==== Proof.Product.lean ====
/- A point's block of the product: four column blocks of the accumulated sums, each scaled by its row's scale and its column's. -/
module

public import proofs.«01_k».proof.Proof.Trips
public import proofs.«01_k».proof.Proof.RunB

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

/-- A product block at an index: the sum over the blocks, times the row's scale (at the column's lane), times the column's. -/
def blockVal (x0 : Vec Ideal S1x16 .f32) (w : ℕ → ℕ → BitVec 8) (cb : ℕ → ℕ → ℕ → BitVec 8) (xv : Vec Ideal S16x128x256 .bf16)
    (sc : Vec Ideal S128x128 .f32) (x5 : Vec Ideal S1x1024 .f32) (y : S128x1024.Idx) : EReal :=
  (∑ b : Fin 16, blockSum x0 w cb xv (y 0) (y 1).val b) * (show EReal from sc (ix2 (y 0) ⟨(y 1).val % 128, Nat.mod_lt _ (by decide)⟩)) * (show EReal from x5 (ix2 0 (y 1)))

theorem twice_apply (sc : FVec Ideal S128x128 .f32) (r : Fin 128) (n : Fin 256) :
    concatenate S128x256 1 [⟨S128x128, sc⟩, ⟨S128x128, sc⟩] concatenates_S128x128_S128x128_S128x256_d1 (ix2 r n)
      = sc (ix2 r ⟨n.val % 128, Nat.mod_lt _ (by decide)⟩) := by
  by_cases hn : n.val < 128
  · refine concatenate_pair_apply_left (s₁ := S128x128) (s₂ := S128x128) (t := S128x256) (1 : Fin S128x256.rank) _ _ _ (ix2 r n) rfl _ fun b => ?_
    match b with
    | ⟨0, _⟩ => rfl
    | ⟨1, _⟩ => exact Nat.mod_eq_of_lt hn
  · refine concatenate_pair_apply_right (s₁ := S128x128) (s₂ := S128x128) (t := S128x256) (1 : Fin S128x256.rank) _ _ _ (ix2 r n) rfl rfl _ (fun b hb => ?_) ?_
    · match b with
      | ⟨0, _⟩ => rfl
      | ⟨1, _⟩ => exact absurd rfl hb
    · have := n.isLt
      show n.val % 128 + 128 = n.val
      omega

/-- A column block's piece of the product. -/
theorem finish_piece (v : View sig .tc .vmem S1x1024 .f32) (X6 : v.ty.Contents (Elt Ideal)) (x5 : Vec Ideal S1x1024 .f32)
    (h6 : v.read (Elt Ideal) X6 = x5) (x0 : Vec Ideal S1x16 .f32) (w : ℕ → ℕ → BitVec 8) (cb : ℕ → ℕ → ℕ → BitVec 8) (xv : Vec Ideal S16x128x256 .bf16)
    (acc : FVec Ideal S128x256 .f32) (sc sc' : Vec Ideal S128x128 .f32) (hs : sc' = sc) (off : ℕ)
    (hacc : ∀ (r : Fin 128) (n : Fin 256), acc (ix2 r n) = ∑ b : Fin 16, blockSum x0 w cb xv r (off + n.val) b) (hd : off % 128 = 0)
    (inb' : ∀ a, (![0, off] : Fin 2 → ℕ) a + S1x256.size a ≤ S1x1024.size a)
    (inb : ∀ a, (![0, off] : Fin 2 → ℕ) a + S128x256.size a ≤ S128x1024.size a) (x : S128x256.Idx) :
    k0_pay558 acc sc' (View.readAt (Elt Ideal) v (Rect.unit (s := S1x1024) ![0, off] S1x256.size inb').toLoadRect X6) x
      = blockVal x0 w cb xv sc x5 ((Rect.unit (s := S128x1024) ![0, off] S128x256.size inb).emb x) := by
  subst hs h6
  suffices H : ∀ (r : Fin 128) (n : Fin 256),
      k0_pay558 acc sc' (View.readAt (Elt Ideal) v (Rect.unit (s := S1x1024) ![0, off] S1x256.size inb').toLoadRect X6) (ix2 r n)
        = blockVal x0 w cb xv sc' (v.read (Elt Ideal) X6) ((Rect.unit (s := S128x1024) ![0, off] S128x256.size inb).emb (ix2 r n)) by
    have h := H (x 0) (x 1)
    rw [show (ix2 (x 0) (x 1) : S128x256.Idx) = x from (eq_ix2 x).symm] at h
    exact h
  intro r n
  have hb : off + 256 ≤ 1024 := inb 1
  have hn := n.isLt
  have e : (Rect.unit (s := S128x1024) ![0, off] S128x256.size inb).emb (ix2 r n) = ix2 r ⟨off + n.val, by omega⟩ := by
    funext a
    apply Fin.ext
    match a with
    | ⟨0, _⟩ => show 0 + 1 * r.val = r.val; omega
    | ⟨1, _⟩ => show off + 1 * n.val = off + n.val; omega
  refine Eq.trans ?_ (congrArg (blockVal x0 w cb xv sc' (v.read (Elt Ideal) X6)) e.symm)
  show acc (ix2 r n) * concatenate S128x256 1 [⟨S128x128, sc'⟩, ⟨S128x128, sc'⟩] concatenates_S128x128_S128x128_S128x256_d1 (ix2 r n)
      * broadcastTo S128x256 (shapeCast S1x256 _ shapeCasts_S1x256_S1x256) broadcasts_S1x256_S128x256 (ix2 r n) = _
  rw [hacc, twice_apply, shapeCast_self]
  unfold blockVal
  congr 1
  · congr 2
    refine congrArg (ix2 r) (Fin.ext ?_)
    show n.val % 128 = (off + n.val) % 128
    omega
  · refine (broadcastTo_apply _ _ _ (ix2 0 n) ?_).trans ?_
    · intro a
      match a with
      | ⟨0, _⟩ => rfl
      | ⟨1, _⟩ => rfl
    · refine View.ld_unit_apply_of (v.read (Elt Ideal) X6) _ _ inb' (ix2 0 n) (ix2 0 ⟨off + n.val, by omega⟩) fun d => ?_
      match d with
      | ⟨0, _⟩ => rfl
      | ⟨1, _⟩ => rfl

/-- The accumulator starts from nothing. -/
theorem zero_start (r : Fin 128) (n : Fin 256) : (k0_pay556 : FVec Ideal S128x256 .f32) (ix2 r n) = 0 := Idealize.ShloMosaic.Ideal.ofBits_zero_f32

theorem trips16 : Scf.trips (0#32) (Scalar.addi 0#32 16#32) 1#32 = 16 := by decide +kernel

section
variable (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole)
  (x0 : Vec Ideal S1x16 .f32) (x1 : Vec Ideal S128x4096 .bf16) (x2 : Vec Ideal S2048x1024 .i8) (x3 : Vec Ideal S16x2x2x32x128 .i8) (x4 : Vec Ideal S16x2x8x32x128 .i8) (x5 : Vec Ideal S1x1024 .f32) (xo7 : Vec Ideal S128x4096 .i8) (xo8 : Vec Ideal S1x128 .f32) (xs0 : Vec Ideal S16x128x256 .bf16) (xs1 : Vec Ideal S128x128 .f32)
  (w : ℕ → ℕ → BitVec 8) (cb : ℕ → ℕ → ℕ → BitVec 8)
  (hw : ∀ (i : Fin 2048) (n : Fin 1024), x2 (ix2 i n) = w i.val n.val)
  (hl : ∀ (b : Fin 16) (e h : Fin 2) (i : Fin 32) (j : Fin 128), x3 (ix5 b e h i j) = cb b.val e.val (128 * h.val + j.val))
  (ht : ∀ (b : Fin 16) (e : Fin 2) (g : Fin 8) (i : Fin 32) (j : Fin 128), x4 (ix5 b e g i j) = cb b.val e.val (32 * g.val + i.val))

include hw hl ht in
theorem piecesB (hc0 : ¬cond0_0 i) : ∀ pc ∈ (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo7 xo8 xs0 xs1).1,
    ∀ x : pc.1.shape.Idx, pc.2 x = blockVal x0 w cb xs0 xs1 x5 (pc.1.emb x) := by
  have r1 : arg1.view.read (Elt Ideal) (harg1.unread x0) = x0 := harg1.read_unread _
  have r3 : arg3.view.read (Elt Ideal) (harg3.unread x2) = x2 := harg3.read_unread _
  have r4 : arg4.view.read (Elt Ideal) (harg4.unread x3) = x3 := harg4.read_unread _
  have r5 : arg5.view.read (Elt Ideal) (harg5.unread x4) = x4 := harg5.read_unread _
  have r6 : arg6.view.read (Elt Ideal) (harg6.unread x5) = x5 := harg6.read_unread _
  have r10 : arg10.view.read (Elt Ideal) (harg10.unread xs0) = xs0 := harg10.read_unread _
  have hz : (![0, 0] : Fin 2 → ℕ) = fun _ => 0 := by decide
  have hs (inb) : View.readAt (Elt Ideal) arg11.view (Rect.unit (s := S128x128) ![0, 0] S128x128.size inb).toLoadRect (harg11.unread xs1) = xs1 := by
    rw [View.readAt_eq_ld, harg11.read_unread, View.ld_unit_zero (S := S128x128) hz]
  have hw' := fun a b => (congrFun r3 (ix2 a b)).trans (hw a b)
  have hl' := fun a b d e f => (congrFun r4 (ix5 a b d e f)).trans (hl a b d e f)
  have ht' := fun a b d e f => (congrFun r5 (ix5 a b d e f)).trans (ht a b d e f)
  unfold kernelRun0_B
  dsimp only
  rw [trips16]
  refine List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩
  · exact finish_piece arg6.view _ x5 r6 x0 w cb xs0 _ xs1 _ (hs _) 768 (fun r n =>
      (st4_apply Variants.none c none i arg1 harg1 arg2 harg2 arg3 harg3 arg4 harg4 arg5 harg5 arg6 harg6 arg7 harg7 arg8 harg8 arg9 harg9 arg10 harg10 arg11 harg11 _ _ _ _ _ x0 w cb xs0 r1 hw' hl' ht' r10 _ r n).trans (by rw [show k0_pay3 (F := Ideal) (ix2 r n) = 0 from zero_start r n, zero_add])) (by decide) inb_S1x1024_S1x256_0_768 inb_S128x1024_S128x256_0_768 x
  · exact finish_piece arg6.view _ x5 r6 x0 w cb xs0 _ xs1 _ (hs _) 512 (fun r n =>
      (st3_apply Variants.none c none i arg1 harg1 arg2 harg2 arg3 harg3 arg4 harg4 arg5 harg5 arg6 harg6 arg7 harg7 arg8 harg8 arg9 harg9 arg10 harg10 arg11 harg11 _ _ _ _ _ x0 w cb xs0 r1 hw' hl' ht' r10 _ r n).trans (by rw [show k0_pay562 (F := Ideal) (ix2 r n) = 0 from zero_start r n, zero_add])) (by decide) inb_S1x1024_S1x256_0_512 inb_S128x1024_S128x256_0_512 x
  · exact finish_piece arg6.view _ x5 r6 x0 w cb xs0 _ xs1 _ (hs _) 256 (fun r n =>
      (st2_apply Variants.none c none i arg1 harg1 arg2 harg2 arg3 harg3 arg4 harg4 arg5 harg5 arg6 harg6 arg7 harg7 arg8 harg8 arg9 harg9 arg10 harg10 arg11 harg11 _ _ _ _ _ x0 w cb xs0 r1 hw' hl' ht' r10 _ r n).trans (by rw [show k0_pay559 (F := Ideal) (ix2 r n) = 0 from zero_start r n, zero_add])) (by decide) inb_S1x1024_S1x256_0_256 inb_S128x1024_S128x256_0_256 x
  · exact finish_piece arg6.view _ x5 r6 x0 w cb xs0 _ xs1 _ (hs _) 0 (fun r n =>
      (st1_apply Variants.none c none i arg1 harg1 arg2 harg2 arg3 harg3 arg4 harg4 arg5 harg5 arg6 harg6 arg7 harg7 arg8 harg8 arg9 harg9 arg10 harg10 arg11 harg11 _ _ _ _ _ x0 w cb xs0 r1 hw' hl' ht' r10 _ r n).trans (by rw [zero_start r n, zero_add])) (by decide) inb_S1x1024_S1x256_0_0 inb_S128x1024_S128x256_0_0 x

include hw hl ht in
theorem piecesA (hc0 : cond0_0 i) (xv : Vec Ideal S16x128x256 .bf16) (hxv : View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.1 = xv)
    (sc : Vec Ideal S128x128 .f32) (hsc : View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.2.1 = sc) :
    ∀ pc ∈ (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).1,
    ∀ x : pc.1.shape.Idx, pc.2 x = blockVal x0 w cb xv sc x5 (pc.1.emb x) := by
  have r1 : arg1.view.read (Elt Ideal) (harg1.unread x0) = x0 := harg1.read_unread _
  have r3 : arg3.view.read (Elt Ideal) (harg3.unread x2) = x2 := harg3.read_unread _
  have r4 : arg4.view.read (Elt Ideal) (harg4.unread x3) = x3 := harg4.read_unread _
  have r5 : arg5.view.read (Elt Ideal) (harg5.unread x4) = x4 := harg5.read_unread _
  have r6 : arg6.view.read (Elt Ideal) (harg6.unread x5) = x5 := harg6.read_unread _
  have hz : (![0, 0] : Fin 2 → ℕ) = fun _ => 0 := by decide
  have hw' := fun a b => (congrFun r3 (ix2 a b)).trans (hw a b)
  have hl' := fun a b d e f => (congrFun r4 (ix5 a b d e f)).trans (hl a b d e f)
  have ht' := fun a b d e f => (congrFun r5 (ix5 a b d e f)).trans (ht a b d e f)
  unfold kernelRun0_A at hxv hsc
  dsimp only at hxv hsc
  have r10 : arg10.view.read (Elt Ideal) (arg10.view.writes (Elt Ideal) arg10.view.junk (kernelRun0_A.sl.HS0_128 c arg2 harg2 x1)) = xv :=
    (View.read_writes_junk_eq_canon _ _).trans hxv
  have hs (inb) : View.readCov arg11.view (kernelRun0_A.sl.HS1_1 c arg2 harg2 x1) (Rect.unit (s := S128x128) ![0, 0] S128x128.size inb) = sc := by
    rw [View.readCov_eq_canon', hsc]
    exact View.ld_unit_zero (S := S128x128) hz inb sc
  unfold kernelRun0_A
  dsimp only
  rw [trips16]
  refine List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩
  · exact finish_piece arg6.view _ x5 r6 x0 w cb xv _ sc _ (hs _) 768 (fun r n =>
      (st4_apply Variants.none c none i arg1 harg1 arg2 harg2 arg3 harg3 arg4 harg4 arg5 harg5 arg6 harg6 arg7 harg7 arg8 harg8 arg9 harg9 arg10 harg10 arg11 harg11 _ _ _ _ _ x0 w cb xv r1 hw' hl' ht' r10 _ r n).trans (by rw [show k0_pay3 (F := Ideal) (ix2 r n) = 0 from zero_start r n, zero_add])) (by decide) inb_S1x1024_S1x256_0_768 inb_S128x1024_S128x256_0_768 x
  · exact finish_piece arg6.view _ x5 r6 x0 w cb xv _ sc _ (hs _) 512 (fun r n =>
      (st3_apply Variants.none c none i arg1 harg1 arg2 harg2 arg3 harg3 arg4 harg4 arg5 harg5 arg6 harg6 arg7 harg7 arg8 harg8 arg9 harg9 arg10 harg10 arg11 harg11 _ _ _ _ _ x0 w cb xv r1 hw' hl' ht' r10 _ r n).trans (by rw [show k0_pay562 (F := Ideal) (ix2 r n) = 0 from zero_start r n, zero_add])) (by decide) inb_S1x1024_S1x256_0_512 inb_S128x1024_S128x256_0_512 x
  · exact finish_piece arg6.view _ x5 r6 x0 w cb xv _ sc _ (hs _) 256 (fun r n =>
      (st2_apply Variants.none c none i arg1 harg1 arg2 harg2 arg3 harg3 arg4 harg4 arg5 harg5 arg6 harg6 arg7 harg7 arg8 harg8 arg9 harg9 arg10 harg10 arg11 harg11 _ _ _ _ _ x0 w cb xv r1 hw' hl' ht' r10 _ r n).trans (by rw [show k0_pay559 (F := Ideal) (ix2 r n) = 0 from zero_start r n, zero_add])) (by decide) inb_S1x1024_S1x256_0_256 inb_S128x1024_S128x256_0_256 x
  · exact finish_piece arg6.view _ x5 r6 x0 w cb xv _ sc _ (hs _) 0 (fun r n =>
      (st1_apply Variants.none c none i arg1 harg1 arg2 harg2 arg3 harg3 arg4 harg4 arg5 harg5 arg6 harg6 arg7 harg7 arg8 harg8 arg9 harg9 arg10 harg10 arg11 harg11 _ _ _ _ _ x0 w cb xv r1 hw' hl' ht' r10 _ r n).trans (by rw [zero_start r n, zero_add])) (by decide) inb_S1x1024_S1x256_0_0 inb_S128x1024_S128x256_0_0 x

end

end Cert.KernelIdeal.Gen

end
-- ==== Proof.Quant.lean ====
/- What the first point leaves beside its product block: the codes, the scales, the scales spread over lanes, and the codes
   regrouped by block with the two entries of each pair apart. -/
module

public import proofs.«01_k».proof.Proof.Product

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

/-! ## The regrouped codes -/

/-- The lane of a group of 128 codes that a lane of the regrouped codes takes: the even ones first, then the odd ones. -/
def permN (j : ℕ) : ℕ := if j < 64 then 2 * j else 2 * (j - 64) + 1

theorem permN_lt {j : ℕ} (h : j < 128) : permN j < 128 := by unfold permN; split <;> omega

def permW : IVec S32x128 8 := k0_pay14 k0_pay10 k0_pay11 k0_pay12 k0_pay13

theorem permW_apply (i : Fin 32) (j : Fin 128) : (permW (ix2 i j)).toNat = permN j.val := by
  revert i j; decide +kernel

/-- The codes regrouped: block, row, then the block's two groups of 128, each permuted. -/
def XB (v : IVec S128x4096 8) (y : S16x128x256.Idx) : EReal :=
  (((v (ix2 (y 1) ⟨256 * (y 0).val + 128 * ((y 2).val / 128) + permN ((y 2).val % 128), by
    have h0 : (y 0).val < 16 := (y 0).isLt
    have h2 : (y 2).val < 256 := (y 2).isLt
    have := permN_lt (Nat.mod_lt (y 2).val (show 0 < 128 by decide))
    omega⟩)).toInt : ℝ) : EReal)

/-- One piece of the regrouping. -/
theorem xb_piece (v : IVec S128x4096 8) (b a l d : ℕ) (hs : S128x4096.Slices ![a, d] S32x128)
    (inb : ∀ q, (![b, a, l] : Fin 3 → ℕ) q + S1x32x128.size q ≤ S16x128x256.size q) (hd : d = 256 * b + l) (hl : l % 128 = 0) (x : S1x32x128.Idx) :
    shapeCast S1x32x128 (sitofp (F := Ideal) .bf16 (trunci 8 (dynamicGather 1 (extsi 32 (extractStridedSlice S32x128 ![a, d] v hs) natLt_8_32) (gidx permW)) natLt_8_32)) shapeCasts_S32x128_S1x32x128 x
      = XB v ((Rect.unit (s := S16x128x256) ![b, a, l] S1x32x128.size inb).emb x) := by
  suffices H : ∀ (i : Fin 32) (j : Fin 128),
      shapeCast S1x32x128 (sitofp (F := Ideal) .bf16 (trunci 8 (dynamicGather 1 (extsi 32 (extractStridedSlice S32x128 ![a, d] v hs) natLt_8_32) (gidx permW)) natLt_8_32)) shapeCasts_S32x128_S1x32x128 (ix3 0 i j)
        = XB v ((Rect.unit (s := S16x128x256) ![b, a, l] S1x32x128.size inb).emb (ix3 0 i j)) by
    have h := H (x 1) (x 2)
    rw [show (ix3 0 (x 1) (x 2) : S1x32x128.Idx) = x from ?_] at h
    · exact h
    · refine (eq_ix3 x).symm ▸ ?_
      have h0 : (x 0).val < 1 := (x 0).isLt
      have : (x 0) = (0 : Fin 1) := Fin.ext (by show (x 0).val = 0; omega)
      exact congrArg (fun q => ix3 q (x 1) (x 2)) this.symm
  intro i j
  have hb : b + 1 ≤ 16 := inb 0
  have ha : a + 32 ≤ 128 := inb 1
  have hl2 : l + 128 ≤ 256 := inb 2
  have hi := i.isLt
  have hj := j.isLt
  have hp := permN_lt hj
  have hw : (permW (ix2 i j)).toNat < 128 := (permW_apply i j).trans_lt hp
  refine (shapeCast_apply _ _ _ (ix2 i j) (by rw [Shape.rowMajor_val_two, Shape.rowMajor_val_three]; simp)).trans ?_
  have hg : dynamicGather 1 (extsi 32 (extractStridedSlice S32x128 ![a, d] v hs) natLt_8_32) (gidx permW) (ix2 i j)
      = (v (ix2 ⟨a + i.val, by omega⟩ ⟨d + permN j.val, by omega⟩)).signExtend 32 := by
    unfold dynamicGather extsi extractStridedSlice
    congr 2
    funext q
    apply Fin.ext
    match q with
    | ⟨0, _⟩ => rfl
    | ⟨1, _⟩ =>
      show d + ((gidx permW (ix2 i j)).toNat % 128) = d + permN j.val
      rw [gidx_apply, signExtend_small _ hw, permW_apply, Nat.mod_eq_of_lt hp]
  show ((((dynamicGather 1 (extsi 32 (extractStridedSlice S32x128 ![a, d] v hs) natLt_8_32) (gidx permW) (ix2 i j)).setWidth 8).toInt : ℝ) : EReal) = _
  rw [hg]
  unfold XB
  congr 2
  have hx : ∀ z : BitVec 8, (z.signExtend 32).setWidth 8 = z := by decide +kernel
  rw [hx]
  refine congrArg (fun q => (v q).toInt) ?_
  funext q
  apply Fin.ext
  match q with
  | ⟨0, _⟩ => show a + i.val = a + 1 * i.val; omega
  | ⟨1, _⟩ =>
    show d + permN j.val = 256 * (b + 1 * 0) + 128 * ((l + 1 * j.val) / 128) + permN ((l + 1 * j.val) % 128)
    rw [show (l + 1 * j.val) % 128 = j.val by omega]
    omega

end Cert.KernelIdeal.Gen

end
-- ==== Proof.RefRead.lean ====
/- The reference's values, read at an index: the codes apart by parity, the weights off the codebook, the two sums. -/
module

public import proofs.«01_k».proof.Proof.Gen.ReferenceIdeal.Read
public import Idealize.ShloMosaic.Lib.Pipeline.ValueKit.Tiles

@[expose] public section

set_option maxRecDepth 16384

noncomputable section

namespace Cert.ReferenceIdeal.Read

open Idealize.ShloMosaic Idealize.ShloMosaic.TcCoe Idealize.ShloMosaic.Tactic Idealize.ShloMosaic.ValueIdx
open Cert.ReferenceIdeal Cert.ReferenceIdeal.Gen
open scoped BigOperators

variable (x0 : (⟨S1x128x4096, .bf16⟩ : BufTy).Contents (Elt Ideal)) (x1 : (⟨S2048x14336, .i8⟩ : BufTy).Contents (Elt Ideal))
  (x2 : (⟨S16x256x2, .i8⟩ : BufTy).Contents (Elt Ideal)) (x3 : (⟨S16, .bf16⟩ : BufTy).Contents (Elt Ideal))
  (x4 : (⟨S14336, .f32⟩ : BufTy).Contents (Elt Ideal))

/-- The signed value of a byte is that of its sign extension. -/
theorem toInt_ext8 (z : BitVec 8) : (z.signExtend 32).toInt = z.toInt := by
  revert z; decide +kernel

/-- The even codes. -/
theorem codeEven (r : Fin 128) (k : Fin 2048) :
    val_main_v35 (F := Ideal) x0 (ix2 r k) = (((val_main_v29 (F := Ideal) x0 (ix2 r ⟨2 * k.val, by omega⟩)).toInt : ℝ) : EReal) := by
  rw [val_main_v35_apply, val_main_v34_apply, val_main_v33_apply, val_main_v32_apply, val_main_v31_apply, val_main_v30_apply]
  have hi : idx_main_v33 (idx_main_v34 (idx_main_v35 (ix2 r k))) = ix2 r ⟨2 * k.val, by omega⟩ := by
    funext a
    apply Fin.ext
    have hr := r.isLt
    have hk := k.isLt
    match a with
    | ⟨0, _⟩ => show (((r.val * 2048 + k.val) / 2048 * 2048 + (r.val * 2048 + k.val) / 1 % 2048) * 2 + 0) / 4096 = r.val; omega
    | ⟨1, _⟩ => show (((r.val * 2048 + k.val) / 2048 * 2048 + (r.val * 2048 + k.val) / 1 % 2048) * 2 + 0) % 4096 = 2 * k.val; omega
  rw [hi]
  show ((((val_main_v29 (F := Ideal) x0 (ix2 r ⟨2 * k.val, by omega⟩)).signExtend 32).toInt : ℝ) : EReal) = _
  rw [toInt_ext8]

/-- The odd codes. -/
theorem codeOdd (r : Fin 128) (k : Fin 2048) :
    val_main_v40 (F := Ideal) x0 (ix2 r k) = (((val_main_v29 (F := Ideal) x0 (ix2 r ⟨2 * k.val + 1, by omega⟩)).toInt : ℝ) : EReal) := by
  rw [val_main_v40_apply, val_main_v39_apply, val_main_v33_apply, val_main_v32_apply, val_main_v31_apply, val_main_v30_apply]
  have hi : idx_main_v33 (idx_main_v39 (idx_main_v40 (ix2 r k))) = ix2 r ⟨2 * k.val + 1, by omega⟩ := by
    funext a
    apply Fin.ext
    have hr := r.isLt
    have hk := k.isLt
    match a with
    | ⟨0, _⟩ => show (((r.val * 2048 + k.val) / 2048 * 2048 + (r.val * 2048 + k.val) / 1 % 2048) * 2 + (1 + 0)) / 4096 = r.val; omega
    | ⟨1, _⟩ => show (((r.val * 2048 + k.val) / 2048 * 2048 + (r.val * 2048 + k.val) / 1 % 2048) * 2 + (1 + 0)) % 4096 = 2 * k.val + 1; omega
  rw [hi]
  show ((((val_main_v29 (F := Ideal) x0 (ix2 r ⟨2 * k.val + 1, by omega⟩)).signExtend 32).toInt : ℝ) : EReal) = _
  rw [toInt_ext8]

/-- A start index of the gather: the block. -/
theorem start0 (b : Fin 16) (j : Fin 128) (n : Fin 14336) :
    val_main_v11 (F := Ideal) x1 (ix4 b j n (0 : Fin 2)) = BitVec.ofNat 32 b.val := by
  unfold val_main_v11
  rw [concatenate_pair_apply_left (s₁ := S16x128x14336x1) (s₂ := S16x128x14336x1) (t := S16x128x14336x2) (3 : Fin S16x128x14336x2.rank)
    _ _ _ (ix4 b j n (0 : Fin 2)) rfl (ix4 b j n (0 : Fin 1)) (fun q => by match q with | ⟨0, _⟩ => rfl | ⟨1, _⟩ => rfl | ⟨2, _⟩ => rfl | ⟨3, _⟩ => rfl)]
  rw [val_main_v9_apply, val_main_v8_apply]

/-- A start index of the gather: the entry. -/
theorem start1 (b : Fin 16) (j : Fin 128) (n : Fin 14336) :
    val_main_v11 (F := Ideal) x1 (ix4 b j n (1 : Fin 2)) = (x1 (ix2 ⟨128 * b.val + j.val, by omega⟩ n)).setWidth 32 := by
  unfold val_main_v11
  rw [concatenate_pair_apply_right (s₁ := S16x128x14336x1) (s₂ := S16x128x14336x1) (t := S16x128x14336x2) (3 : Fin S16x128x14336x2.rank)
    _ _ _ (ix4 b j n (1 : Fin 2)) rfl rfl (ix4 b j n (0 : Fin 1)) (fun q hq => by match q with | ⟨0, _⟩ => rfl | ⟨1, _⟩ => rfl | ⟨2, _⟩ => rfl | ⟨3, _⟩ => exact absurd rfl hq) rfl]
  rw [val_main_v10_apply, val_main_v7_apply, val_main_v6_apply]
  refine congrArg (fun q => (x1 q).setWidth 32) ?_
  funext a
  apply Fin.ext
  have hb := b.isLt
  have hj := j.isLt
  have hn := n.isLt
  match a with
  | ⟨0, _⟩ => show ((b.val * 128 + j.val) * 14336 + n.val) / 14336 = 128 * b.val + j.val; omega
  | ⟨1, _⟩ => show ((b.val * 128 + j.val) * 14336 + n.val) % 14336 = n.val; omega

/-- The gather at an index: the scaled codebook at the block and the entry the index word names. -/
theorem gather_read (b : Fin 16) (j : Fin 128) (n : Fin 14336) (e : Fin 2) :
    val_main_v12 (F := Ideal) x1 x2 x3 (ix4 b j n e)
      = val_main_v5 (F := Ideal) x2 x3 (ix3 b (Fin.cast rfl (x1 (ix2 ⟨128 * b.val + j.val, by omega⟩ n)).toFin) e) := by
  unfold val_main_v12 Host.gather
  refine congrArg (val_main_v5 (F := Ideal) x2 x3) ?_
  set d := gather_S16x256x2_S16x128x14336x2_S16x128x14336x2_3_01_n_n_01_3_112 with hd
  have si : ∀ (q : ℕ) (hq : q < 2) (hq' : q < d.startIndexMap.length), d.siIdx (ix4 b j n e) ⟨q, hq'⟩ = ix4 b j n (⟨q, hq⟩ : Fin 2) := by
    intro q hq hq'
    funext a
    apply Fin.ext
    match a with
    | ⟨0, _⟩ => rfl
    | ⟨1, _⟩ => rfl
    | ⟨2, _⟩ => rfl
    | ⟨3, _⟩ => rfl
  have m0 : (0 : Fin 3) ∈ d.startIndexMap := by decide
  have m1 : (1 : Fin 3) ∈ d.startIndexMap := by decide
  have nb : ∀ a : Fin 3, a ∉ d.operandBatchingDims := fun a h => by cases h
  funext a
  apply Fin.ext
  show d.start (ix4 b j n e) (val_main_v11 (F := Ideal) x1) a + d.batchCoord (ix4 b j n e) a + d.offCoord (ix4 b j n e) a = _
  rw [GatherDims.batchCoord_eq_zero _ _ _ (nb a), Nat.add_zero]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide)), Nat.add_zero]
    unfold GatherDims.start
    rw [dif_pos m0]
    rw [show d.siIdx (ix4 b j n e) ⟨d.startIndexMap.idxOf (0 : Fin 3), List.idxOf_lt_length_iff.2 m0⟩ = ix4 b j n (0 : Fin 2) from si 0 (by decide) _]
    rw [start0]
    have : ∀ b : Fin 16, min (BitVec.ofNat 32 b.val).toInt.toNat (16 - 1) = b.val := by decide +kernel
    exact this b
  · rw [GatherDims.offCoord_eq_zero _ _ _ (fun h => ((GatherDims.mem_sKept _ _).mp h).1 (by decide)), Nat.add_zero]
    unfold GatherDims.start
    rw [dif_pos m1]
    rw [show d.siIdx (ix4 b j n e) ⟨d.startIndexMap.idxOf (1 : Fin 3), List.idxOf_lt_length_iff.2 m1⟩ = ix4 b j n (1 : Fin 2) from si 1 (by decide) _]
    rw [start1]
    have : ∀ z : BitVec 8, min (z.setWidth 32).toInt.toNat (256 - 1) = z.toNat := by decide +kernel
    exact this _
  · unfold GatherDims.start
    rw [dif_neg (by decide), Nat.zero_add]
    rfl

/-- A word of the codebook, as a real, scaled by its block's scale. -/
def weight (k : Fin 2048) (n : Fin 14336) (e : Fin 2) : EReal :=
  (((x2 (ix3 (⟨k.val / 128, by omega⟩ : Fin 16) (Fin.cast rfl (x1 (ix2 k n)).toFin : Fin 256) e)).toInt : ℝ) : EReal) * x3 (ix1 ⟨k.val / 128, by omega⟩)

theorem weight_read (k : Fin 2048) (n : Fin 14336) (e : Fin 2) : val_main_v13 (F := Ideal) x1 x2 x3 (ix3 k n e) = weight x1 x2 x3 k n e := by
  have hk := k.isLt
  have hn := n.isLt
  have he := e.isLt
  rw [val_main_v13_apply]
  have hi : idx_main_v13 (ix3 k n e) = ix4 (⟨k.val / 128, by omega⟩ : Fin 16) (⟨k.val % 128, by omega⟩ : Fin 128) n e := by
    funext a
    apply Fin.ext
    match a with
    | ⟨0, _⟩ => show ((k.val * 14336 + n.val) * 2 + e.val) / 3670016 = k.val / 128; omega
    | ⟨1, _⟩ => show ((k.val * 14336 + n.val) * 2 + e.val) / 28672 % 128 = k.val % 128; omega
    | ⟨2, _⟩ => show ((k.val * 14336 + n.val) * 2 + e.val) / 2 % 14336 = n.val; omega
    | ⟨3, _⟩ => show ((k.val * 14336 + n.val) * 2 + e.val) % 2 = e.val; omega
  rw [hi, gather_read, val_main_v5_apply, val_main_v2_apply, val_main_v1_apply, val_main_v0_apply, val_main_v4_apply, val_main_v3_apply]
  have hk' : (⟨128 * (k.val / 128) + k.val % 128, by omega⟩ : Fin 2048) = k := Fin.ext (by show 128 * (k.val / 128) + k.val % 128 = k.val; omega)
  unfold weight
  show ((((x2 (ix3 (⟨k.val / 128, by omega⟩ : Fin 16) (Fin.cast rfl (x1 (ix2 (⟨128 * (k.val / 128) + k.val % 128, by omega⟩ : Fin 2048) n)).toFin : Fin 256) e)).signExtend 32).toInt : ℝ) : EReal) * x3 _ = _
  rw [toInt_ext8, hk']
  refine congrArg (fun q => _ * x3 q) ?_
  funext a
  match a with
  | ⟨0, _⟩ => rfl

/-- The even weights. -/
theorem weightEven (k : Fin 2048) (n : Fin 14336) : val_main_v37 (F := Ideal) x1 x2 x3 (ix2 k n) = weight x1 x2 x3 k n 0 := by
  have hk := k.isLt
  have hn := n.isLt
  rw [← weight_read, val_main_v37_apply, val_main_v36_apply]
  refine congrArg (val_main_v13 (F := Ideal) x1 x2 x3) ?_
  funext a
  apply Fin.ext
  match a with
  | ⟨0, _⟩ => show (k.val * 14336 + n.val) / 14336 = k.val; omega
  | ⟨1, _⟩ => show (k.val * 14336 + n.val) / 1 % 14336 = n.val; omega
  | ⟨2, _⟩ => rfl

/-- The odd weights. -/
theorem weightOdd (k : Fin 2048) (n : Fin 14336) : val_main_v42 (F := Ideal) x1 x2 x3 (ix2 k n) = weight x1 x2 x3 k n 1 := by
  have hk := k.isLt
  have hn := n.isLt
  rw [← weight_read, val_main_v42_apply, val_main_v41_apply]
  refine congrArg (val_main_v13 (F := Ideal) x1 x2 x3) ?_
  funext a
  apply Fin.ext
  match a with
  | ⟨0, _⟩ => show (k.val * 14336 + n.val) / 14336 = k.val; omega
  | ⟨1, _⟩ => show (k.val * 14336 + n.val) / 1 % 14336 = n.val; omega
  | ⟨2, _⟩ => rfl

/-- A code of the reference, as a real. -/
def code (r : Fin 128) (j : Fin 4096) : EReal := (((val_main_v29 (F := Ideal) x0 (ix2 r j)).toInt : ℝ) : EReal)

/-- The product of the reference at an index. -/
theorem result_read (r : Fin 128) (n : Fin 14336) :
    val_main_v51 (F := Ideal) x0 x1 x2 x3 x4 (ix2 r n)
      = ((∑ k : Fin 2048, code x0 r ⟨2 * k.val, by omega⟩ * weight x1 x2 x3 k n 0)
          + ∑ k : Fin 2048, code x0 r ⟨2 * k.val + 1, by omega⟩ * weight x1 x2 x3 k n 1)
        * val_main_v22 (F := Ideal) x0 (ix1 r) * x4 (ix1 n) := by
  rw [val_main_v51_apply, val_main_v50_apply, val_main_v47_apply, val_main_v44_apply, val_main_v38_apply, val_main_v43_apply,
    val_main_v46_apply, val_main_v45_apply, val_main_v49_apply, val_main_v48_apply]
  have l1 : ∀ k, lidx_main_v38 (ix2 r n) k = ix2 r k := fun k => funext fun a => by match a with | ⟨0, _⟩ => rfl | ⟨1, _⟩ => rfl
  have l2 : ∀ k, ridx_main_v38 (ix2 r n) k = ix2 k n := fun k => funext fun a => by match a with | ⟨0, _⟩ => rfl | ⟨1, _⟩ => rfl
  have l3 : ∀ k, lidx_main_v43 (ix2 r n) k = ix2 r k := fun k => funext fun a => by match a with | ⟨0, _⟩ => rfl | ⟨1, _⟩ => rfl
  have l4 : ∀ k, ridx_main_v43 (ix2 r n) k = ix2 k n := fun k => funext fun a => by match a with | ⟨0, _⟩ => rfl | ⟨1, _⟩ => rfl
  have l5 : idx_main_v45 (idx_main_v46 (ix2 r n)) = ix1 r := funext fun a => by match a with | ⟨0, _⟩ => rfl
  have l6 : idx_main_v48 (idx_main_v49 (ix2 r n)) = ix1 n := funext fun a => by match a with | ⟨0, _⟩ => rfl
  rw [l5, l6]
  simp only [l1, l2, l3, l4, codeEven, codeOdd, weightEven, weightOdd]
  rfl

/-- The scales of the reference at an index. -/
theorem scale_read (n : Fin 128) : val_main_v52 (F := Ideal) x0 (ix2 (0 : Fin 1) n) = val_main_v22 (F := Ideal) x0 (ix1 n) := by
  rw [val_main_v52_apply]
  refine congrArg (val_main_v22 (F := Ideal) x0) ?_
  funext a
  match a with
  | ⟨0, _⟩ => rfl

end Cert.ReferenceIdeal.Read

end
-- ==== Proof.Reindex.lean ====
/- The kernel's sum over blocks and lanes is the reference's two sums: a lane of a block is one parity of one pair. -/
module

public import proofs.«01_k».proof.Proof.Quant
public import proofs.«01_k».proof.Proof.RefRead

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

/-- A lane of a block, as its parity and its pair. -/
def laneEquiv : Fin 256 ≃ Fin 2 × Fin 128 where
  toFun k := (⟨parOf k.val, by unfold parOf; omega⟩, ⟨rowOf k.val, by unfold rowOf; omega⟩)
  invFun p := ⟨p.2.val % 64 + 64 * p.1.val + 128 * (p.2.val / 64), by omega⟩
  left_inv k := Fin.ext (by show rowOf k.val % 64 + 64 * parOf k.val + 128 * (rowOf k.val / 64) = k.val; unfold parOf rowOf; omega)
  right_inv p := Prod.ext (Fin.ext (by show parOf (p.2.val % 64 + 64 * p.1.val + 128 * (p.2.val / 64)) = p.1.val; unfold parOf; omega))
    (Fin.ext (by show rowOf (p.2.val % 64 + 64 * p.1.val + 128 * (p.2.val / 64)) = p.2.val; unfold rowOf; omega))

/-- The sum over the lanes of one block, by parity. -/
theorem lanes_sum {M : Type} [AddCommMonoid M] (h : ℕ → ℕ → M) :
    ∑ k : Fin 256, h (parOf k.val) (rowOf k.val) = (∑ q : Fin 128, h 0 q.val) + ∑ q : Fin 128, h 1 q.val := by
  rw [Fintype.sum_equiv laneEquiv (fun k : Fin 256 => h (parOf k.val) (rowOf k.val)) (fun p : Fin 2 × Fin 128 => h p.1.val p.2.val) (fun k => rfl),
    Fintype.sum_prod_type, Fin.sum_univ_two]
  rfl

/-- The sum over the pairs, block by block. -/
theorem pairs_sum {M : Type} [AddCommMonoid M] (h : ℕ → M) :
    ∑ j : Fin 2048, h j.val = ∑ b : Fin 16, ∑ q : Fin 128, h (128 * b.val + q.val) := by
  rw [← Fintype.sum_prod_type' (fun (b : Fin 16) (q : Fin 128) => h (128 * b.val + q.val))]
  refine (Fintype.sum_equiv (finProdFinEquiv (m := 16) (n := 128)) _ (fun j : Fin 2048 => h j.val) fun p => ?_).symm
  show h (128 * p.1.val + p.2.val) = h (p.2.val + 128 * p.1.val)
  rw [Nat.add_comm]

/-- Both together. -/
theorem regroup {M : Type} [AddCommMonoid M] (g : ℕ → ℕ → M) :
    ∑ b : Fin 16, ∑ k : Fin 256, g (parOf k.val) (128 * b.val + rowOf k.val) = (∑ j : Fin 2048, g 0 j.val) + ∑ j : Fin 2048, g 1 j.val := by
  rw [pairs_sum (g 0), pairs_sum (g 1), ← Finset.sum_add_distrib]
  exact Finset.sum_congr rfl fun b _ => lanes_sum fun p q => g p (128 * b.val + q)

/-- The code a lane of a block holds: the one of its parity in its pair. -/
theorem XB_apply (v : IVec S128x4096 8) (b : Fin 16) (r : Fin 128) (k : Fin 256) :
    XB v (ix3 b r k) = (((v (ix2 r ⟨2 * (128 * b.val + rowOf k.val) + parOf k.val, by unfold parOf rowOf; omega⟩)).toInt : ℝ) : EReal) := by
  unfold XB
  refine congrArg (fun q => (((v q).toInt : ℝ) : EReal)) ?_
  funext a
  apply Fin.ext
  match a with
  | ⟨0, _⟩ => rfl
  | ⟨1, _⟩ =>
    show 256 * b.val + 128 * (k.val / 128) + permN (k.val % 128) = 2 * (128 * b.val + rowOf k.val) + parOf k.val
    unfold permN parOf rowOf
    have := k.isLt
    split <;> omega

end Cert.KernelIdeal.Gen

end
-- ==== Proof.Inputs.lean ====
/- What each input block holds at a point, read off the kernel's arguments: the host's lines before the launch only move entries. -/
module

public import proofs.«01_k».proof.Proof.Reindex
public import proofs.«01_k».proof.Proof.Gen.KernelIdeal.Frame
public import proofs.«01_k».proof.Proof.Gen.KernelIdeal.Points
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.ShloMosaic.ValueIdx
open Idealize.ShloMosaic.StableHlo
open Cert.ReferenceIdeal.Read (val_main_v14)
open scoped BigOperators

variable (m : (ℓ : Loc nD τ sig) → Buf (Elt Ideal) ℓ)

/-! ## The arguments -/

abbrev a0 (c : Dev nD) : FVec Ideal S1x128x4096 .bf16 := m ((c : Thread nD τ).loc main_arg0)
abbrev a1 (c : Dev nD) : IVec S2048x14336 8 := m ((c : Thread nD τ).loc main_arg1)
abbrev a2 (c : Dev nD) : IVec S16x256x2 8 := m ((c : Thread nD τ).loc main_arg2)
abbrev a3 (c : Dev nD) : FVec Ideal S16 .bf16 := m ((c : Thread nD τ).loc main_arg3)
abbrev a4 (c : Dev nD) : FVec Ideal S14336 .f32 := m ((c : Thread nD τ).loc main_arg4)

/-- The word at row `i` of column `n` of the `t`-th block of columns. -/
def wordAt (x1 : IVec S2048x14336 8) (t i n : ℕ) : BitVec 8 :=
  if h : i < 2048 ∧ 1024 * t + n < 14336 then x1 (ix2 (⟨i, h.1⟩ : Fin 2048) (⟨1024 * t + n, h.2⟩ : Fin 14336)) else 0

/-- Entry `e` of code word `h` of block `b`'s code book. -/
def entryAt (x2 : IVec S16x256x2 8) (b e h : ℕ) : BitVec 8 :=
  if hh : b < 16 ∧ h < 256 ∧ e < 2 then x2 (ix3 (⟨b, hh.1⟩ : Fin 16) (⟨h, hh.2.1⟩ : Fin 256) (⟨e, hh.2.2⟩ : Fin 2)) else 0

theorem wordAt_eq (x1 : IVec S2048x14336 8) (t i n : ℕ) (hi : i < 2048) (hn : 1024 * t + n < 14336) :
    wordAt x1 t i n = x1 (ix2 (⟨i, hi⟩ : Fin 2048) (⟨1024 * t + n, hn⟩ : Fin 14336)) := dif_pos ⟨hi, hn⟩

theorem entryAt_eq (x2 : IVec S16x256x2 8) (b e h : ℕ) (hb : b < 16) (hh : h < 256) (he : e < 2) :
    entryAt x2 b e h = x2 (ix3 (⟨b, hb⟩ : Fin 16) (⟨h, hh⟩ : Fin 256) (⟨e, he⟩ : Fin 2)) := dif_pos ⟨hb, hh, he⟩

/-! ## The arrays the launch finds -/

theorem V_v7 (c : Dev nD) : V m c main_v7 = shapeCast S1x16 (extf .f32 (a3 m c) bitsLt_bf16_f32) shapeCasts_S16_S1x16 := by
  unfold_abbrev_sides; after_results; rfl
theorem V_v8 (c : Dev nD) : V m c main_v8 = shapeCast S128x4096 (a0 m c) shapeCasts_S1x128x4096_S128x4096 := by
  unfold_abbrev_sides; after_results; rfl
theorem V_v0 (c : Dev nD) : V m c main_v0 = a1 m c := by
  unfold_abbrev_sides; after_results; rfl
theorem V_v3 (c : Dev nD) : V m c main_v3 = broadcastInDim S16x2x2x32x128 ![0, 1, 2, 3, 4] bcast_S16x2x2x1x128_S16x2x2x32x128_0_1_2_3_4
    (shapeCast S16x2x2x1x128 (transpose S16x2x256 [0, 2, 1] (a2 m c) transposes_S16x256x2_S16x2x256_0_2_1) shapeCasts_S16x2x256_S16x2x2x1x128) := by
  unfold_abbrev_sides; after_results; rfl
theorem V_v5 (c : Dev nD) : V m c main_v5 = broadcastInDim S16x2x8x32x128 ![0, 1, 2, 3, 4] bcast_S16x2x8x32x1_S16x2x8x32x128_0_1_2_3_4
    (shapeCast S16x2x8x32x1 (transpose S16x2x256 [0, 2, 1] (a2 m c) transposes_S16x256x2_S16x2x256_0_2_1) shapeCasts_S16x2x256_S16x2x8x32x1) := by
  unfold_abbrev_sides; after_results; rfl
theorem V_v9 (c : Dev nD) : V m c main_v9 = shapeCast S1x14336 (a4 m c) shapeCasts_S14336_S1x14336 := by
  unfold_abbrev_sides; after_results; rfl

/-! ## Entry reads -/

theorem cbs_read (x3 : FVec Ideal S16 .bf16) (b : Fin 16) :
    shapeCast S1x16 (extf .f32 x3 bitsLt_bf16_f32) shapeCasts_S16_S1x16 (ix2 (0 : Fin 1) b) = x3 (ix1 b) := by
  refine (shapeCast_apply _ _ (ix2 (0 : Fin 1) b : S1x16.Idx) (ix1 b : S16.Idx) ?_).trans rfl
  rw [Shape.rowMajor_val_two, Shape.rowMajor_val_one]
  show b.val = 0 * 16 + b.val
  omega

theorem osc_read (x4 : FVec Ideal S14336 .f32) (n : Fin 14336) :
    shapeCast S1x14336 x4 shapeCasts_S14336_S1x14336 (ix2 (0 : Fin 1) n) = x4 (ix1 n) := by
  refine shapeCast_apply _ _ (ix2 (0 : Fin 1) n : S1x14336.Idx) (ix1 n : S14336.Idx) ?_
  rw [Shape.rowMajor_val_two, Shape.rowMajor_val_one]
  show n.val = 0 * 14336 + n.val
  omega

theorem swap_read (x2 : IVec S16x256x2 8) (b : Fin 16) (e : Fin 2) (h : Fin 256) :
    transpose S16x2x256 [0, 2, 1] x2 transposes_S16x256x2_S16x2x256_0_2_1 (ix3 b e h) = x2 (ix3 b h e) := by
  unfold transpose
  refine congrArg x2 ?_
  funext a
  apply Fin.ext
  match a with
  | ⟨0, _⟩ => rfl
  | ⟨1, _⟩ => rfl
  | ⟨2, _⟩ => rfl

theorem tabl_read (x2 : IVec S16x256x2 8) (b : Fin 16) (e : Fin 2) (h : Fin 2) (i : Fin 32) (j : Fin 128) :
    broadcastInDim S16x2x2x32x128 ![0, 1, 2, 3, 4] bcast_S16x2x2x1x128_S16x2x2x32x128_0_1_2_3_4
      (shapeCast S16x2x2x1x128 (transpose S16x2x256 [0, 2, 1] x2 transposes_S16x256x2_S16x2x256_0_2_1) shapeCasts_S16x2x256_S16x2x2x1x128) (ix5 b e h i j)
      = entryAt x2 b.val e.val (128 * h.val + j.val) := by
  refine (congrArg _ (show _ = (ix5 b e h (0 : Fin 1) j : S16x2x2x1x128.Idx) from ?_)).trans ((shapeCast_apply _ _ (ix5 b e h (0 : Fin 1) j : S16x2x2x1x128.Idx) (ix3 b e (⟨128 * h.val + j.val, by omega⟩ : Fin 256) : S16x2x256.Idx) ?_).trans ?_)
  · funext a
    match a with
    | ⟨0, _⟩ => rfl
    | ⟨1, _⟩ => rfl
    | ⟨2, _⟩ => rfl
    | ⟨3, _⟩ => rfl
    | ⟨4, _⟩ => rfl
  · rw [Shape.rowMajor_val_five, Shape.rowMajor_val_three]
    show (b.val * 2 + e.val) * 256 + (128 * h.val + j.val) = (((b.val * 2 + e.val) * 2 + h.val) * 1 + 0) * 128 + j.val
    omega
  · rw [swap_read, entryAt_eq x2 b.val e.val (128 * h.val + j.val) b.isLt (by omega) e.isLt]

theorem tabs_read (x2 : IVec S16x256x2 8) (b : Fin 16) (e : Fin 2) (g : Fin 8) (i : Fin 32) (j : Fin 128) :
    broadcastInDim S16x2x8x32x128 ![0, 1, 2, 3, 4] bcast_S16x2x8x32x1_S16x2x8x32x128_0_1_2_3_4
      (shapeCast S16x2x8x32x1 (transpose S16x2x256 [0, 2, 1] x2 transposes_S16x256x2_S16x2x256_0_2_1) shapeCasts_S16x2x256_S16x2x8x32x1) (ix5 b e g i j)
      = entryAt x2 b.val e.val (32 * g.val + i.val) := by
  refine (congrArg _ (show _ = (ix5 b e g i (0 : Fin 1) : S16x2x8x32x1.Idx) from ?_)).trans ((shapeCast_apply _ _ (ix5 b e g i (0 : Fin 1) : S16x2x8x32x1.Idx) (ix3 b e (⟨32 * g.val + i.val, by omega⟩ : Fin 256) : S16x2x256.Idx) ?_).trans ?_)
  · funext a
    match a with
    | ⟨0, _⟩ => rfl
    | ⟨1, _⟩ => rfl
    | ⟨2, _⟩ => rfl
    | ⟨3, _⟩ => rfl
    | ⟨4, _⟩ => rfl
  · rw [Shape.rowMajor_val_five, Shape.rowMajor_val_three]
    show (b.val * 2 + e.val) * 256 + (32 * g.val + i.val) = (((b.val * 2 + e.val) * 8 + g.val) * 32 + i.val) * 1 + 0
    omega
  · rw [swap_read, entryAt_eq x2 b.val e.val (32 * g.val + i.val) b.isLt (by omega) e.isLt]

/-! ## The blocks -/

theorem ix0 (t : Fin cfg0.N) : win0_0.index t (0 : Fin 2) = 0 ∧ win0_0.index t (1 : Fin 2) = 0 := ⟨rfl, rfl⟩

theorem blk0_read (c : Dev nD) (t : Fin cfg0.N) (b : Fin 16) : (iblk m c 0 t : S1x16.Idx → EReal) (ix2 (0 : Fin 1) b) = a3 m c (ix1 b) := by
  refine Eq.trans ?_ (cbs_read (a3 m c) b)
  rw [← V_v7]
  refine congrArg (V m c main_v7) (show ((cfg0.win 0).blk t).view.emb (ix2 (0 : Fin 1) b : S1x16.Idx) = (ix2 (0 : Fin 1) b : S1x16.Idx) from ?_)
  funext a; apply Fin.ext
  match a with
  | ⟨0, _⟩ => show win0_0.index t (0 : Fin 2) * 1 + 1 * 0 = 0; rw [show win0_0.index t (0 : Fin 2) = 0 from rfl]
  | ⟨1, _⟩ => show win0_0.index t (1 : Fin 2) * 16 + 1 * b.val = b.val; rw [show win0_0.index t (1 : Fin 2) = 0 from rfl]; omega

theorem blk1_eq (c : Dev nD) (t : Fin cfg0.N) : (iblk m c 1 t : FVec Ideal S128x4096 .bf16) = val_main_v14 (F := Ideal) (a0 m c) := by
  refine Eq.trans ?_ (V_v8 m c)
  funext j
  refine congrArg (V m c main_v8) (show ((cfg0.win 1).blk t).view.emb (j : S128x4096.Idx) = (j : S128x4096.Idx) from ?_)
  funext a; apply Fin.ext
  match a with
  | ⟨0, _⟩ => show win0_1.index t (0 : Fin 2) * 128 + 1 * (j 0).val = (j 0).val; rw [show win0_1.index t (0 : Fin 2) = 0 from rfl]; omega
  | ⟨1, _⟩ => show win0_1.index t (1 : Fin 2) * 4096 + 1 * (j 1).val = (j 1).val; rw [show win0_1.index t (1 : Fin 2) = 0 from rfl]; omega

/-- The one coordinate of a point. -/
theorem index_col : ∀ t : Fin cfg0.N, win0_2.index t (1 : Fin 2) = t.val ∧ win0_5.index t (1 : Fin 2) = t.val ∧ win0_6.index t (1 : Fin 2) = t.val := by
  decide +kernel

theorem blk2_read (c : Dev nD) (t : Fin cfg0.N) (i : Fin 2048) (n : Fin 1024) :
    (iblk m c 2 t : IVec S2048x1024 8) (ix2 i n) = wordAt (a1 m c) t.val i.val n.val := by
  have hN : t.val < 14 := lt_of_lt_of_eq t.isLt (show cfg0.N = 14 from N_0)
  rw [wordAt_eq (a1 m c) t.val i.val n.val i.isLt (by omega), ← V_v0]
  refine congrArg (V m c main_v0) (show ((cfg0.win 2).blk t).view.emb (ix2 i n : S2048x1024.Idx) = (ix2 (⟨i.val, i.isLt⟩ : Fin 2048) (⟨1024 * t.val + n.val, by omega⟩ : Fin 14336) : S2048x14336.Idx) from ?_)
  funext a; apply Fin.ext
  match a with
  | ⟨0, _⟩ => show win0_2.index t (0 : Fin 2) * 2048 + 1 * i.val = i.val; rw [show win0_2.index t (0 : Fin 2) = 0 from rfl]; omega
  | ⟨1, _⟩ => show win0_2.index t (1 : Fin 2) * 1024 + 1 * n.val = 1024 * t.val + n.val; rw [(index_col t).1]; omega

theorem blk3_read (c : Dev nD) (t : Fin cfg0.N) (b : Fin 16) (e : Fin 2) (h : Fin 2) (i : Fin 32) (j : Fin 128) :
    (iblk m c 3 t : IVec S16x2x2x32x128 8) (ix5 b e h i j) = entryAt (a2 m c) b.val e.val (128 * h.val + j.val) := by
  refine Eq.trans ?_ (tabl_read (a2 m c) b e h i j)
  rw [← V_v3]
  refine congrArg (V m c main_v3) (show ((cfg0.win 3).blk t).view.emb (ix5 b e h i j : S16x2x2x32x128.Idx) = (ix5 b e h i j : S16x2x2x32x128.Idx) from ?_)
  funext a; apply Fin.ext
  match a with
  | ⟨0, _⟩ => show 0 * 16 + 1 * b.val = b.val; omega
  | ⟨1, _⟩ => show 0 * 2 + 1 * e.val = e.val; omega
  | ⟨2, _⟩ => show 0 * 2 + 1 * h.val = h.val; omega
  | ⟨3, _⟩ => show 0 * 32 + 1 * i.val = i.val; omega
  | ⟨4, _⟩ => show 0 * 128 + 1 * j.val = j.val; omega

theorem blk4_read (c : Dev nD) (t : Fin cfg0.N) (b : Fin 16) (e : Fin 2) (g : Fin 8) (i : Fin 32) (j : Fin 128) :
    (iblk m c 4 t : IVec S16x2x8x32x128 8) (ix5 b e g i j) = entryAt (a2 m c) b.val e.val (32 * g.val + i.val) := by
  refine Eq.trans ?_ (tabs_read (a2 m c) b e g i j)
  rw [← V_v5]
  refine congrArg (V m c main_v5) (show ((cfg0.win 4).blk t).view.emb (ix5 b e g i j : S16x2x8x32x128.Idx) = (ix5 b e g i j : S16x2x8x32x128.Idx) from ?_)
  funext a; apply Fin.ext
  match a with
  | ⟨0, _⟩ => show 0 * 16 + 1 * b.val = b.val; omega
  | ⟨1, _⟩ => show 0 * 2 + 1 * e.val = e.val; omega
  | ⟨2, _⟩ => show 0 * 8 + 1 * g.val = g.val; omega
  | ⟨3, _⟩ => show 0 * 32 + 1 * i.val = i.val; omega
  | ⟨4, _⟩ => show 0 * 128 + 1 * j.val = j.val; omega

theorem blk5_read (c : Dev nD) (t : Fin cfg0.N) (n : Fin 1024) (hn : 1024 * t.val + n.val < 14336) :
    (iblk m c 5 t : S1x1024.Idx → EReal) (ix2 (0 : Fin 1) n) = a4 m c (ix1 (⟨1024 * t.val + n.val, hn⟩ : Fin 14336)) := by
  refine Eq.trans ?_ (osc_read (a4 m c) ⟨1024 * t.val + n.val, hn⟩)
  rw [← V_v9]
  refine congrArg (V m c main_v9) (show ((cfg0.win 5).blk t).view.emb (ix2 (0 : Fin 1) n : S1x1024.Idx) = (ix2 (0 : Fin 1) (⟨1024 * t.val + n.val, hn⟩ : Fin 14336) : S1x14336.Idx) from ?_)
  funext a; apply Fin.ext
  match a with
  | ⟨0, _⟩ => show win0_5.index t (0 : Fin 2) * 1 + 1 * 0 = 0; rw [show win0_5.index t (0 : Fin 2) = 0 from rfl]
  | ⟨1, _⟩ => show win0_5.index t (1 : Fin 2) * 1024 + 1 * n.val = 1024 * t.val + n.val; rw [(index_col t).2.1]; omega

end Cert.KernelIdeal.Gen

end
-- ==== Proof.Regroup.lean ====
/- The scratch array of regrouped codes, as the first point leaves it. -/
module

public import proofs.«01_k».proof.Proof.Quant

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

/-- A list of pieces that regroup the codes, with one more piece in front. -/
theorem xb_cons {v : IVec S128x4096 8} {b a l d : ℕ} {hs : S128x4096.Slices ![a, d] S32x128}
    {inb : ∀ q, (![b, a, l] : Fin 3 → ℕ) q + S1x32x128.size q ≤ S16x128x256.size q} {val : Vec Ideal S1x32x128 .bf16}
    {rest : List (View.Piece (Elt Ideal) S16x128x256 .bf16)}
    (hval : val = shapeCast S1x32x128 (sitofp (F := Ideal) .bf16 (trunci 8 (dynamicGather 1 (extsi 32 (extractStridedSlice S32x128 ![a, d] v hs) natLt_8_32) (gidx permW)) natLt_8_32)) shapeCasts_S32x128_S1x32x128)
    (hd : d = 256 * b + l) (hl : l % 128 = 0) (hr : ∀ pc ∈ rest, ∀ x : pc.1.shape.Idx, pc.2 x = XB v (pc.1.emb x)) :
    ∀ pc ∈ (⟨Rect.unit (s := S16x128x256) ![b, a, l] S1x32x128.size inb, val⟩ :: rest : List (View.Piece (Elt Ideal) S16x128x256 .bf16)),
      ∀ x : pc.1.shape.Idx, pc.2 x = XB v (pc.1.emb x) :=
  List.forall_mem_cons.2 ⟨fun x => by subst hval; exact xb_piece v b a l d hs inb hd hl x, hr⟩

variable (c : Dev nD) (arg2 : Memref sig .tc .vmem S128x4096 .bf16) (harg2 : arg2.IsWhole) (x1 : Vec Ideal S128x4096 .bf16)

theorem r1_eq : kernelRun0_A.sl.r_1 c arg2 harg2 x1 = k0_pay8 x1 := by
  unfold kernelRun0_A.sl.r_1
  rw [View.readAt_eq_ld, harg2.read_unread, View.ld_unit_zero (S := S128x4096) (by decide)]

theorem xb_pieces : ∀ pc ∈ kernelRun0_A.sl.HS0_128 c arg2 harg2 x1, ∀ x : pc.1.shape.Idx, pc.2 x = XB (k0_pay8 x1) (pc.1.emb x) := by
  rw [← r1_eq c arg2 harg2]
  unfold kernelRun0_A.sl.HS0_128
  iterate 128 refine xb_cons (by rfl) (by rfl) (by rfl) ?_
  exact fun _ h => absurd h List.not_mem_nil
end Cert.KernelIdeal.Gen
-- ==== Proof.Codes.lean ====
/- The kernel's quantiser against the reference's: the scales, the codes, the row of scales the kernel writes. -/
module

public import proofs.«01_k».proof.Proof.Regroup
public import proofs.«01_k».proof.Proof.RefRead

@[expose] public section

set_option maxRecDepth 16384

noncomputable section

namespace Cert.KernelIdeal.Gen

open Idealize.ShloMosaic Idealize.ShloMosaic.TcCoe Idealize.ShloMosaic.Tactic Idealize.ShloMosaic.ValueIdx
open Cert.ReferenceIdeal.Read
open scoped BigOperators

variable (x0 : Vec Ideal S1x128x4096 .bf16)

/-- The largest magnitude of a row, in the kernel and in the reference. -/
theorem amax_eq (hφ : FKind.Formats .f32) (hacc : (0xFF800000#32 : BitVec 32) = FKind.maximumf.neutral .f32 hφ) (j : S128.Idx) :
    multiReduction (F := Ideal) .maximumf [1] S128 (absf (k0_pay6 (val_main_v14 (F := Ideal) x0))) 0xFF800000#32 reduces_S128x4096_S128 hφ hacc j
      = val_main_v17 (F := Ideal) x0 j := by
  rw [multiReduction_maximumf_eq_fold]
  unfold val_main_v17
  rw [Host.reduce_eq_fold, Shape.ReducesTo.drop_eq_drop _ reduces_S128x4096_S128]
  have : absf (F := Ideal) (k0_pay6 (val_main_v14 (F := Ideal) x0)) = val_main_v16 (F := Ideal) x0 := by
    unfold k0_pay6
    dsimp only
    rw [shapeCast_self]
    rfl
  rw [this]
  generalize val_main_v16 (F := Ideal) x0 = X
  exact congrArg (fun z => Finset.fold _ z X _) (val_main_cst_apply _).symm

/-- A row's scale. -/
theorem pay7_read (r : Fin 128) : k0_pay7 (val_main_v14 (F := Ideal) x0) (ix2 r (0 : Fin 1)) = val_main_v22 (F := Ideal) x0 (ix1 r) := by
  have h : shapeCast S128x1 (multiReduction (F := Ideal) .maximumf [1] S128 (absf (k0_pay6 (val_main_v14 (F := Ideal) x0))) 0xFF800000#32 reduces_S128x4096_S128 (.inl rfl) rfl) shapeCasts_S128_S128x1 (ix2 r (0 : Fin 1))
      = val_main_v17 (F := Ideal) x0 (ix1 r) :=
    (shapeCast_apply _ _ _ (ix1 r) (by rw [Shape.rowMajor_val_two, Shape.rowMajor_val_one]; simp)).trans (amax_eq x0 _ _ _)
  rw [val_main_v22_apply, val_main_v19_apply, val_main_v21_apply, val_main_v18_apply, val_main_v20_apply, val_main_call0_v1_apply, val_main_call0_v0_apply,
    val_main_cst_0_apply, val_main_cst_1_apply, val_main_cst_2_apply]
  unfold k0_pay7
  dsimp only
  revert h
  generalize shapeCast S128x1 (multiReduction (F := Ideal) .maximumf [1] S128 (absf (k0_pay6 (val_main_v14 (F := Ideal) x0))) 0xFF800000#32 reduces_S128x4096_S128 (.inl rfl) rfl) shapeCasts_S128_S128x1 = A
  generalize val_main_v17 (F := Ideal) x0 (ix1 r) = M
  intro h
  subst h
  rfl

/-- A number within the codes' range goes to the byte its word narrows to. -/
theorem fptosi_narrow (x : EReal) :
    Ideal.fptosi 8 (min ((127 : ℝ) : EReal) (max ((-127 : ℝ) : EReal) x)) = (Ideal.fptosi 32 (min ((127 : ℝ) : EReal) (max ((-127 : ℝ) : EReal) x))).setWidth 8 := by
  obtain ⟨r, hr, h1, h2⟩ : ∃ r : ℝ, min ((127 : ℝ) : EReal) (max ((-127 : ℝ) : EReal) x) = (r : EReal) ∧ -127 ≤ r ∧ r ≤ 127 := by
    induction x with
    | bot => exact ⟨-127, by rw [max_eq_left bot_le, min_eq_right (by exact_mod_cast (by norm_num : (-127 : ℝ) ≤ 127))], le_refl _, by norm_num⟩
    | top => exact ⟨127, by rw [max_eq_right le_top, min_eq_left le_top], by norm_num, le_refl _⟩
    | coe a => exact ⟨min 127 (max (-127) a), by push_cast; rfl, le_min (by norm_num) (le_max_left _ _), min_le_left _ _⟩
  rw [hr]
  unfold Ideal.fptosi
  have key : ∀ z : ℤ, -127 ≤ z → z ≤ 127 → BitVec.ofInt 8 (max (-(2 ^ (8 - 1) : ℕ)) (min ((2 ^ (8 - 1) : ℕ) - 1) z))
      = (BitVec.ofInt 32 (max (-(2 ^ (32 - 1) : ℕ)) (min ((2 ^ (32 - 1) : ℕ) - 1) z))).setWidth 8 := by
    intro z hz1 hz2
    rw [min_eq_right (by push_cast; omega), max_eq_right (by push_cast; omega), min_eq_right (by push_cast; omega), max_eq_right (by push_cast; omega)]
    apply BitVec.eq_of_toNat_eq
    rw [BitVec.toNat_setWidth, BitVec.toNat_ofInt, BitVec.toNat_ofInt]
    omega
  refine key _ ?_ ?_
  · split
    · exact Int.le_floor.2 (by push_cast; exact h1)
    · exact (Int.le_ceil_iff).2 (by push_cast; linarith)
  · split
    · exact Int.floor_le_iff.2 (by push_cast; linarith)
    · exact Int.ceil_le.2 (by push_cast; exact h2)

/-- The codes. -/
theorem pay8_eq : k0_pay8 (val_main_v14 (F := Ideal) x0) = val_main_v29 (F := Ideal) x0 := by
  suffices H : ∀ (r : Fin 128) (n : Fin 4096), k0_pay8 (val_main_v14 (F := Ideal) x0) (ix2 r n) = val_main_v29 (F := Ideal) x0 (ix2 r n) by
    funext x
    have h := H (x 0) (x 1)
    rw [show (ix2 (x 0) (x 1) : S128x4096.Idx) = x from (eq_ix2 x).symm] at h
    exact h
  intro r n
  have hb : broadcastTo S128x4096 (k0_pay7 (val_main_v14 (F := Ideal) x0)) broadcasts_S128x1_S128x4096 (ix2 r n) = val_main_v24 (F := Ideal) x0 (ix2 r n) := by
    rw [val_main_v24_apply, val_main_v23_apply]
    refine (broadcastTo_apply _ _ _ (ix2 r (0 : Fin 1)) (fun a => by match a with | ⟨0, _⟩ => rfl | ⟨1, _⟩ => rfl)).trans ((pay7_read x0 r).trans ?_)
    refine congrArg (val_main_v22 (F := Ideal) x0) ?_
    funext a
    match a with
    | ⟨0, _⟩ => rfl
  rw [val_main_v29_apply, val_main_v28_apply, val_main_v27_apply, val_main_call2_v2_apply, val_main_v26_apply, val_main_v25_apply,
    val_main_call2_v4_apply, val_main_call2_v1_apply, val_main_call2_v3_apply, val_main_call2_v0_apply, val_main_c_apply, val_main_c_3_apply, ← hb]
  have h6 : k0_pay6 (val_main_v14 (F := Ideal) x0) = val_main_v15 (F := Ideal) x0 := by
    unfold k0_pay6
    dsimp only
    rw [shapeCast_self]
    rfl
  rw [← h6]
  have h127 : (FloatOps.sitofp .f32 (127#32) : Ideal .f32) = ((127 : ℝ) : EReal) := by
    show (((127#32 : BitVec 32).toInt : ℝ) : EReal) = _
    rw [show (127#32 : BitVec 32).toInt = 127 by decide]; norm_num
  have hm127 : (FloatOps.sitofp .f32 (4294967169#32) : Ideal .f32) = ((-127 : ℝ) : EReal) := by
    show (((4294967169#32 : BitVec 32).toInt : ℝ) : EReal) = _
    rw [show (4294967169#32 : BitVec 32).toInt = -127 by decide]; norm_num
  unfold k0_pay8
  generalize broadcastTo S128x4096 (k0_pay7 (val_main_v14 (F := Ideal) x0)) broadcasts_S128x1_S128x4096 = B
  generalize k0_pay6 (val_main_v14 (F := Ideal) x0) = P
  have key := fptosi_narrow (FloatOps.hostUnary (F := Ideal) (φ := .f32) .roundeven (FloatOps.hostDivf (P (ix2 r n)) (B (ix2 r n))))
  rw [← h127, ← hm127] at key
  exact key

/-- The row of scales the kernel writes. -/
theorem pay9_read (n : Fin 128) : k0_pay9 (val_main_v14 (F := Ideal) x0) (ix2 (0 : Fin 1) n) = val_main_v22 (F := Ideal) x0 (ix1 n) := by
  rw [← pay7_read]
  generalize hy : val_main_v14 (F := Ideal) x0 = y
  unfold k0_pay9
  dsimp only
  rw [shapeCast_self]
  refine (shapeCast_apply _ _ _ (ix1 n) (by rw [Shape.rowMajor_val_two, Shape.rowMajor_val_one]; simp)).trans ?_
  refine (Ideal.multiReduction_add_single _ _ _ _ _ _).trans ?_
  refine (Finset.sum_congr rfl fun k _ => ?_).trans ((Finset.sum_ite_eq Finset.univ n fun k : Fin 128 => k0_pay7 y (ix2 k (0 : Fin 1))).trans (if_pos (Finset.mem_univ n)))
  have hl : reduces_S128x128_S128.lift (ix1 n) k = ix2 k n := by
    funext a
    match a with
    | ⟨0, _⟩ => rfl
    | ⟨1, _⟩ => rfl
  have hb : broadcastTo S128x128 (k0_pay7 y) broadcasts_S128x1_S128x128 (ix2 k n) = k0_pay7 y (ix2 k (0 : Fin 1)) :=
    broadcastTo_apply _ _ _ (ix2 k (0 : Fin 1)) (fun a => by match a with | ⟨0, _⟩ => rfl | ⟨1, _⟩ => rfl)
  rw [hl]
  revert hb
  generalize broadcastTo S128x128 (k0_pay7 y) broadcasts_S128x1_S128x128 = B
  intro hb
  rw [← hb]
  show Scalar.select (IntOp.cmpi .eq (iota .tc S128x128 32 [1] iota_S128x128_d1_w32 (ix2 k n)) (iota .tc S128x128 32 [0] iota_S128x128_d0_w32 (ix2 k n))) (B (ix2 k n)) (FloatOps.ofBits .f32 0x00000000#32) = _
  rw [iota_single_apply, iota_single_apply, show (FloatOps.ofBits .f32 0x00000000#32 : Ideal .f32) = 0 from Ideal.ofBits_zero_f32]
  by_cases hnk : n = k
  · subst hnk
    rw [if_pos rfl]
    exact if_pos (by simp [IntOp.cmpi])
  · rw [if_neg hnk]
    refine if_neg ?_
    have hd : ∀ a b : Fin 128, ¬a = b → ¬IntOp.cmpi .eq (BitVec.ofNat 32 a.val) (BitVec.ofNat 32 b.val) = 1#1 := by decide +kernel
    exact hd n k hnk

/-- The scales spread over the lanes. -/
theorem pay555_read (r : Fin 128) (l : Fin 128) : k0_pay555 (k0_pay7 (val_main_v14 (F := Ideal) x0)) (ix2 r l) = val_main_v22 (F := Ideal) x0 (ix1 r) := by
  rw [← pay7_read]
  unfold k0_pay555
  rw [shapeCast_self, shapeCast_self]
  exact broadcastTo_apply _ _ _ (ix2 r (0 : Fin 1)) (fun a => by match a with | ⟨0, _⟩ => rfl | ⟨1, _⟩ => rfl)

end Cert.KernelIdeal.Gen

end
-- ==== Proof.Frame.lean ====
/- The pipeline's proof data with every output named: what the first point leaves in the codes, the scales and the two
   scratch buffers stays there through the later points, and each point leaves its own block of the product. -/
module

public import proofs.«01_k».proof.Proof.RunB
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def tZ : Fin cfg0.N := ⟨0, by rw [show cfg0.N = 14 from N_0]; decide⟩

/-- The body's run at the first point, on the blocks staged there. -/
def runAt0 (c : Dev nD) := kernelRun0_A c (grid0.coords tZ) (ms0_0 tZ) (hs0_0 tZ) (ms0_1 tZ) (hs0_1 tZ) (ms0_2 tZ) (hs0_2 tZ) (ms0_3 tZ) (hs0_3 tZ) (ms0_4 tZ) (hs0_4 tZ) (ms0_5 tZ) (hs0_5 tZ) (ms0_6 tZ) (hs0_6 tZ) (ms0_7 tZ) (hs0_7 tZ) (ms0_8 tZ) (hs0_8 tZ) scM0_0 (Memref.isWhole_whole _) scM0_1 (Memref.isWhole_whole _) ((hcond0_0 tZ).mpr (Nat.zero_mod _)) (iblk m c 0 tZ) (iblk m c 1 tZ) (iblk m c 2 tZ) (iblk m c 3 tZ) (iblk m c 4 tZ) (iblk m c 5 tZ)

/-- What the first point leaves in the codes, -/
def codesV (c : Dev nD) : Vec F S128x4096 .i8 := View.canon (runAt0 m c).2.1
/-- in the scales, -/
def scalesV (c : Dev nD) : Vec F S1x128 .f32 := View.canon (runAt0 m c).2.2.1
/-- in the regrouped codes, -/
def xbV (c : Dev nD) : Vec F S16x128x256 .bf16 := View.canon (runAt0 m c).2.2.2.1
/-- and in the scales spread over lanes. -/
def scV (c : Dev nD) : Vec F S128x128 .f32 := View.canon (runAt0 m c).2.2.2.2.1

/-- The body's run at a later point, on the blocks staged there and what the first point left. -/
def runAt (c : Dev nD) (t : Fin cfg0.N) (h0 : ¬t.val % 14 = 0) := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (codesV m c) (scalesV m c) (xbV m c) (scV m c)

/-- The block of the product a point leaves. -/
def yV (c : Dev nD) (t : Fin cfg0.N) : Vec F S128x1024 .bf16 :=
  if h0 : t.val % 14 = 0 then View.canon (runAt0 m c).1 else View.canon (runAt m c t h0).1

/-! ## The pieces cover their buffers -/

theorem coverA7 (c : Dev nD) (y : S128x1024.Idx) : ∃ pc ∈ (runAt0 m c).1, y ∈ pc.1.set :=
  View.cover_of_tiledL (runAt0 m c).1 S128x256.size (by sl_kernel_rfl) y
theorem coverA8 (c : Dev nD) (y : S128x4096.Idx) : ∃ pc ∈ (runAt0 m c).2.1, y ∈ pc.1.set :=
  View.cover_of_tiledL (runAt0 m c).2.1 S128x4096.size (by sl_kernel_rfl) y
theorem coverA9 (c : Dev nD) (y : S1x128.Idx) : ∃ pc ∈ (runAt0 m c).2.2.1, y ∈ pc.1.set :=
  View.cover_of_tiledL (runAt0 m c).2.2.1 S1x128.size (by sl_kernel_rfl) y
theorem coverA10 (c : Dev nD) (y : S16x128x256.Idx) : ∃ pc ∈ (runAt0 m c).2.2.2.1, y ∈ pc.1.set :=
  View.cover_of_tiledL (runAt0 m c).2.2.2.1 S1x32x128.size (by sl_kernel_rfl) y
theorem coverA11 (c : Dev nD) (y : S128x128.Idx) : ∃ pc ∈ (runAt0 m c).2.2.2.2.1, y ∈ pc.1.set :=
  View.cover_of_tiledL (runAt0 m c).2.2.2.2.1 S128x128.size (by sl_kernel_rfl) y
theorem coverB7 (c : Dev nD) (t : Fin cfg0.N) (h0 : ¬t.val % 14 = 0) (y : S128x1024.Idx) : ∃ pc ∈ (runAt m c t h0).1, y ∈ pc.1.set :=
  View.cover_of_tiledL (runAt m c t h0).1 S128x256.size (by sl_kernel_rfl) y

/-! ## The invariant and the proof data -/

/-- Before the first point the scratch buffers hold anything; after it, what it left. -/
def PhiS (c : Dev nD) : ℕ → sProp 𝕄
  | 0 => Pipeline.ΦA spec0 c
  | _ + 1 => iprop(iprop(owns (c : Thread nD τ) scM0_0 fullShare (xbV m c) ∗ owns (c : Thread nD τ) scM0_1 fullShare (scV m c)) ∗ (∃ r, prngReg c r))

theorem PhiS_pos (c : Dev nD) (n : ℕ) (hz : n ≠ 0) :
    PhiS m c n = iprop(iprop(owns (c : Thread nD τ) scM0_0 fullShare (xbV m c) ∗ owns (c : Thread nD τ) scM0_1 fullShare (scV m c)) ∗ (∃ r, prngReg c r)) := by
  cases n with
  | zero => exact absurd rfl hz
  | succ n => rfl

/-- The proof data: the arrays as the region finds them; after the body each input's buffer at its block, the product at
    its block, the codes and the scales as the first point left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yV m c t
    | ⟨7, _⟩ => codesV m c
    | ⟨8, _⟩ => scalesV m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yV m c t := by dsimp only [dats]
theorem after0_7 (c : Dev nD) (t : Fin cfg0.N) : (dats m 0 c).after 7 t = codesV m c := by dsimp only [dats]
theorem after0_8 (c : Dev nD) (t : Fin cfg0.N) : (dats m 0 c).after 8 t = scalesV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The codes window is idle exactly after the first point. -/
theorem idle0_7 (t : Fin cfg0.N) : cfg0.idle 7 (grid0.coords t) = !decide (t.val = 0) := by
  have hN : t.val < 14 := lt_of_lt_of_eq t.isLt (show cfg0.N = 14 from N_0)
  show (!(k0_cond1 (grid0.coords t) == 1#1)) = _
  have h := hcond0_0 t
  congr 1
  rw [Bool.eq_iff_iff, beq_iff_eq, decide_eq_true_iff]
  exact h.trans ⟨fun h => by omega, fun h => by omega⟩

theorem flush0_7' (t : Fin cfg0.N) : (cfg0.win 7).flush t = decide (t.val = 13) := by
  have hN : t.val < 14 := lt_of_lt_of_eq t.isLt (show cfg0.N = 14 from N_0)
  rw [Bool.eq_iff_iff, decide_eq_true_iff]
  exact (flush0_7 t).trans ⟨fun h => by omega, fun h => by omega⟩

theorem fresh0_7 (t : Fin cfg0.N) : cfg0.fresh 7 t.val = decide (t.val = 0) := by
  have hN : t.val < 14 := lt_of_lt_of_eq t.isLt (show cfg0.N = 14 from N_0)
  rw [cfg0.fresh_tab 7 (fun n => decide (n = 0 ∨ n = 14)) (by decide) (fun t => by
    have hN : t.val < 14 := lt_of_lt_of_eq t.isLt (show cfg0.N = 14 from N_0)
    rw [flush0_7']
    rw [show cfg0.idle 7 (cfg0.grid.coords t) = _ from idle0_7 t]
    rw [Bool.eq_iff_iff]
    simp only [Bool.or_eq_true, Bool.and_eq_true, Bool.not_eq_true', decide_eq_true_iff, decide_eq_false_iff_not]
    omega) t.val (le_of_lt t.isLt), Bool.eq_iff_iff, decide_eq_true_iff, decide_eq_true_iff]
  omega

/-- After the first point the body finds the codes as it left them. -/
theorem before0_7 (c : Dev nD) (t : Fin cfg0.N) (hz : t.val ≠ 0) (d) : (dats m 0 c).before 7 t d = codesV m c := by
  have e := (dats m 0 c).before_out_traj 7 rfl (fun _ _ => rfl) (fun t _ _ _ => by rw [after0_7, after0_7]) t.val t rfl d
  rw [fresh0_7, if_neg (by rw [decide_eq_true_iff]; exact hz), after0_7] at e
  exact e

/-- The scales window is idle exactly after the first point. -/
theorem idle0_8 (t : Fin cfg0.N) : cfg0.idle 8 (grid0.coords t) = !decide (t.val = 0) := by
  have hN : t.val < 14 := lt_of_lt_of_eq t.isLt (show cfg0.N = 14 from N_0)
  show (!(k0_cond1 (grid0.coords t) == 1#1)) = _
  have h := hcond0_0 t
  congr 1
  rw [Bool.eq_iff_iff, beq_iff_eq, decide_eq_true_iff]
  exact h.trans ⟨fun h => by omega, fun h => by omega⟩

theorem flush0_8' (t : Fin cfg0.N) : (cfg0.win 8).flush t = decide (t.val = 13) := by
  have hN : t.val < 14 := lt_of_lt_of_eq t.isLt (show cfg0.N = 14 from N_0)
  rw [Bool.eq_iff_iff, decide_eq_true_iff]
  exact (flush0_8 t).trans ⟨fun h => by omega, fun h => by omega⟩

theorem fresh0_8 (t : Fin cfg0.N) : cfg0.fresh 8 t.val = decide (t.val = 0) := by
  have hN : t.val < 14 := lt_of_lt_of_eq t.isLt (show cfg0.N = 14 from N_0)
  rw [cfg0.fresh_tab 8 (fun n => decide (n = 0 ∨ n = 14)) (by decide) (fun t => by
    have hN : t.val < 14 := lt_of_lt_of_eq t.isLt (show cfg0.N = 14 from N_0)
    rw [flush0_8']
    rw [show cfg0.idle 8 (cfg0.grid.coords t) = _ from idle0_8 t]
    rw [Bool.eq_iff_iff]
    simp only [Bool.or_eq_true, Bool.and_eq_true, Bool.not_eq_true', decide_eq_true_iff, decide_eq_false_iff_not]
    omega) t.val (le_of_lt t.isLt), Bool.eq_iff_iff, decide_eq_true_iff, decide_eq_true_iff]
  omega

/-- After the first point the body finds the scales as it left them. -/
theorem before0_8 (c : Dev nD) (t : Fin cfg0.N) (hz : t.val ≠ 0) (d) : (dats m 0 c).before 8 t d = scalesV m c := by
  have e := (dats m 0 c).before_out_traj 8 rfl (fun _ _ => rfl) (fun t _ _ _ => by rw [after0_8, after0_8]) t.val t rfl d
  rw [fresh0_8, if_neg (by rw [decide_eq_true_iff]; exact hz), after0_8] at e
  exact e

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window that is not idle is handed back at what the proof data says. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- After the first point the codes may be handed back as they were found. -/
theorem leaves0_7 (c : Dev nD) (t : Fin cfg0.N) (hz : t.val ≠ 0) :
    owns (c : Thread nD τ) (ms0_7 t) fullShare (codesV m c) ⊢ (dats m 0 c).leavesExact 7 t := by
  have hi : cfg0.idle 7 (cfg0.grid.coords t) = true := by
    rw [show cfg0.idle 7 (cfg0.grid.coords t) = _ from idle0_7 t]; simp [hz]
  by_cases hf : t.val = 13
  · have hfl : (cfg0.win 7).flush t = true := by rw [flush0_7']; simp [hf]
    rw [show (dats m 0 c).leavesExact 7 t = owns (c : Thread nD τ) (ms0_7 t) fullShare ((dats m 0 c).after 7 t) from by
      unfold Dat.leavesExact; rw [hi, hfl], after0_7]
  · have hfl : (cfg0.win 7).flush t = false := by rw [flush0_7']; simp [hf]
    rw [(dats m 0 c).leavesExact_idle 7 t hi hfl]
    iintro H
    iexists (codesV m c)
    rw [before0_7 m c t hz]
    iexact H

/-- After the first point the scales may be handed back as they were found. -/
theorem leaves0_8 (c : Dev nD) (t : Fin cfg0.N) (hz : t.val ≠ 0) :
    owns (c : Thread nD τ) (ms0_8 t) fullShare (scalesV m c) ⊢ (dats m 0 c).leavesExact 8 t := by
  have hi : cfg0.idle 8 (cfg0.grid.coords t) = true := by
    rw [show cfg0.idle 8 (cfg0.grid.coords t) = _ from idle0_8 t]; simp [hz]
  by_cases hf : t.val = 13
  · have hfl : (cfg0.win 8).flush t = true := by rw [flush0_8']; simp [hf]
    rw [show (dats m 0 c).leavesExact 8 t = owns (c : Thread nD τ) (ms0_8 t) fullShare ((dats m 0 c).after 8 t) from by
      unfold Dat.leavesExact; rw [hi, hfl], after0_8]
  · have hfl : (cfg0.win 8).flush t = false := by rw [flush0_8']; simp [hf]
    rw [(dats m 0 c).leavesExact_idle 8 t hi hfl]
    iintro H
    iexists (scalesV m c)
    rw [before0_8 m c t hz]
    iexact H

set_option maxHeartbeats 6400000 in
/-- The body at the first point. -/
theorem sound_bodyA (c : Dev nD) :
    bodyPre m c tZ ⊢ wp frame (wpE (defs₀ (F := F)) Variants.none c none) Set.univ (bodyAt0 tZ) (fun _ => bodyPost m c tZ) := by
    unfold bodyPre bodyPost bodyAt0
    simp only [before0_0, before0_1, before0_2, before0_3, before0_4, before0_5]
    rw [show (dats m 0 c).owesAt () tZ.succ = (dats m 0 c).owesAt () tZ.castSucc from rfl]
    rw [show (dats m 0 c).Φ tZ.succ = PhiS m c (0 + 1) from rfl, PhiS_pos m c _ (by decide)]
    rw [show (dats m 0 c).Φ tZ.castSucc = Pipeline.ΦA spec0 c from rfl, PhiA0_eq]
    rw [show (dats m 0 c).leavesExact 0 tZ = owns (c : Thread nD τ) (ms0_0 tZ) fullShare ((dats m 0 c).after 0 tZ) from leaves_live m c 0 tZ (liveAt0_0 tZ), after0_0]
    rw [show (dats m 0 c).leavesExact 1 tZ = owns (c : Thread nD τ) (ms0_1 tZ) fullShare ((dats m 0 c).after 1 tZ) from leaves_live m c 1 tZ (liveAt0_1 tZ), after0_1]
    rw [show (dats m 0 c).leavesExact 2 tZ = owns (c : Thread nD τ) (ms0_2 tZ) fullShare ((dats m 0 c).after 2 tZ) from leaves_live m c 2 tZ (liveAt0_2 tZ), after0_2]
    rw [show (dats m 0 c).leavesExact 3 tZ = owns (c : Thread nD τ) (ms0_3 tZ) fullShare ((dats m 0 c).after 3 tZ) from leaves_live m c 3 tZ (liveAt0_3 tZ), after0_3]
    rw [show (dats m 0 c).leavesExact 4 tZ = owns (c : Thread nD τ) (ms0_4 tZ) fullShare ((dats m 0 c).after 4 tZ) from leaves_live m c 4 tZ (liveAt0_4 tZ), after0_4]
    rw [show (dats m 0 c).leavesExact 5 tZ = owns (c : Thread nD τ) (ms0_5 tZ) fullShare ((dats m 0 c).after 5 tZ) from leaves_live m c 5 tZ (liveAt0_5 tZ), after0_5]
    rw [show (dats m 0 c).leavesExact 6 tZ = owns (c : Thread nD τ) (ms0_6 tZ) fullShare ((dats m 0 c).after 6 tZ) from leaves_live m c 6 tZ (liveAt0_6 tZ), after0_6]
    rw [show (dats m 0 c).leavesExact 7 tZ = owns (c : Thread nD τ) (ms0_7 tZ) fullShare ((dats m 0 c).after 7 tZ) from leaves_live m c 7 tZ (idle0_7 tZ), after0_7]
    rw [show (dats m 0 c).leavesExact 8 tZ = owns (c : Thread nD τ) (ms0_8 tZ) fullShare ((dats m 0 c).after 8 tZ) from leaves_live m c 8 tZ (idle0_8 tZ), after0_8]
    rw [show yV m c tZ = View.canon (runAt0 m c).1 from dif_pos (Nat.zero_mod _)]
    unfold codesV scalesV xbV scV
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt0 m c).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (coverA10 m c)
        · unfold owns; iexists _; isplitr
          swap; · iexact HS1
          ipureintro; exact View.read_writes_eq_canon _ _ _ (coverA11 m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverA7 m c)
    isplitl [H7]
    · unfold owns; iexists _; isplitr
      swap; · iexact H7
      ipureintro; exact View.read_writes_eq_canon _ _ _ (coverA8 m c)
    · unfold owns; iexists _; isplitr
      swap; · iexact H8
      ipureintro; exact View.read_writes_eq_canon _ _ _ (coverA9 m c)

set_option maxHeartbeats 6400000 in
/-- The body at a later point. -/
theorem sound_bodyB (c : Dev nD) (t : Fin cfg0.N) (h0 : ¬t.val % 14 = 0) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5, before0_7 m c t hz, before0_8 m c t hz]
    rw [show (dats m 0 c).owesAt () t.succ = (dats m 0 c).owesAt () t.castSucc from rfl]
    rw [show (dats m 0 c).Φ t.succ = PhiS m c (t.val + 1) from rfl, PhiS_pos m c (t.val + 1) (by omega)]
    rw [show (dats m 0 c).Φ t.castSucc = PhiS m c t.val from rfl, PhiS_pos m c t.val hz]
    rw [show (dats m 0 c).leavesExact 0 t = owns (c : Thread nD τ) (ms0_0 t) fullShare ((dats m 0 c).after 0 t) from leaves_live m c 0 t (liveAt0_0 t), after0_0]
    rw [show (dats m 0 c).leavesExact 1 t = owns (c : Thread nD τ) (ms0_1 t) fullShare ((dats m 0 c).after 1 t) from leaves_live m c 1 t (liveAt0_1 t), after0_1]
    rw [show (dats m 0 c).leavesExact 2 t = owns (c : Thread nD τ) (ms0_2 t) fullShare ((dats m 0 c).after 2 t) from leaves_live m c 2 t (liveAt0_2 t), after0_2]
    rw [show (dats m 0 c).leavesExact 3 t = owns (c : Thread nD τ) (ms0_3 t) fullShare ((dats m 0 c).after 3 t) from leaves_live m c 3 t (liveAt0_3 t), after0_3]
    rw [show (dats m 0 c).leavesExact 4 t = owns (c : Thread nD τ) (ms0_4 t) fullShare ((dats m 0 c).after 4 t) from leaves_live m c 4 t (liveAt0_4 t), after0_4]
    rw [show (dats m 0 c).leavesExact 5 t = owns (c : Thread nD τ) (ms0_5 t) fullShare ((dats m 0 c).after 5 t) from leaves_live m c 5 t (liveAt0_5 t), after0_5]
    rw [show (dats m 0 c).leavesExact 6 t = owns (c : Thread nD τ) (ms0_6 t) fullShare ((dats m 0 c).after 6 t) from leaves_live m c 6 t (liveAt0_6 t), after0_6]
    rw [show yV m c t = View.canon (runAt m c t h0).1 from dif_neg h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverB7 m c t h0)
    isplitl [H7]
    · iapply (leaves0_7 m c t hz); iexact H7
    · iapply (leaves0_8 m c t hz); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  by_cases hz : t.val = 0
  · obtain rfl : t = tZ := Fin.ext hz
    exact sound_bodyA m c
  · exact sound_bodyB m c t (by omega) hz

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 14 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch: every array at what the pipeline leaves in it, every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Values.lean ====
/- What the kernel's buffers hold after each point, as the reference's own results. -/
module

public import proofs.«01_k».proof.Proof.Inputs
public import proofs.«01_k».proof.Proof.Codes
public import proofs.«01_k».proof.Proof.Product
public import proofs.«01_k».proof.Proof.Frame

@[expose] public section

set_option maxRecDepth 16384

noncomputable section

namespace Cert.KernelIdeal.Gen

open Idealize.ShloMosaic Idealize.ShloMosaic.TcCoe Idealize.ShloMosaic.Tactic Idealize.ShloMosaic.ValueIdx
open Cert.ReferenceIdeal.Read (val_main_v14 val_main_v22 val_main_v29 val_main_v51 val_main_v52 code weight result_read scale_read)
open scoped BigOperators

/-! ## The first point's pieces -/

section
variable (c : Dev nD) (i : grid0.Coords) (arg1 : Memref sig .tc .smem S1x16 .f32) (harg1 : arg1.IsWhole) (arg2 : Memref sig .tc .vmem S128x4096 .bf16) (harg2 : arg2.IsWhole) (arg3 : Memref sig .tc .vmem S2048x1024 .i8) (harg3 : arg3.IsWhole) (arg4 : Memref sig .tc .vmem S16x2x2x32x128 .i8) (harg4 : arg4.IsWhole) (arg5 : Memref sig .tc .vmem S16x2x8x32x128 .i8) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .i8) (harg8 : arg8.IsWhole) (arg9 : Memref sig .tc .vmem S1x128 .f32) (harg9 : arg9.IsWhole) (arg10 : Memref sig .tc .vmem S16x128x256 .bf16) (harg10 : arg10.IsWhole) (arg11 : Memref sig .tc .vmem S128x128 .f32) (harg11 : arg11.IsWhole)
  (x0 : Vec Ideal S1x16 .f32) (x1 : Vec Ideal S128x4096 .bf16) (x2 : Vec Ideal S2048x1024 .i8) (x3 : Vec Ideal S16x2x2x32x128 .i8) (x4 : Vec Ideal S16x2x8x32x128 .i8) (x5 : Vec Ideal S1x1024 .f32)
  (hc0 : cond0_0 i)

theorem first_xb : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.1 = kernelRun0_A.sl.HS0_128 c arg2 harg2 x1 := rfl

theorem first_load (inb) : View.readAt (Elt Ideal) arg2.view (Rect.unit (s := S128x4096) ![0, 0] S128x4096.size inb).toLoadRect (harg2.unread x1) = x1 := by
  rw [View.readAt_eq_ld, harg2.read_unread, View.ld_unit_zero (S := S128x4096) (by decide)]

theorem first_codes : View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.1 = k0_pay8 x1 := by
  refine (View.canon_unit_zero (S := S128x4096) (by decide) _ _).trans ?_
  exact congrArg k0_pay8 (first_load arg2 harg2 x1 _)

theorem first_scales : View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.1 = k0_pay9 x1 := by
  refine (View.canon_unit_zero (S := S1x128) (by decide) _ _).trans ?_
  exact congrArg k0_pay9 (first_load arg2 harg2 x1 _)

theorem first_spread : View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.2.1 = k0_pay555 (k0_pay7 x1) := by
  refine (View.canon_unit_zero (S := S128x128) (by decide) _ _).trans ?_
  exact congrArg (fun v => k0_pay555 (k0_pay7 v)) (first_load arg2 harg2 x1 _)

end

variable (m : (ℓ : Loc nD τ sig) → Buf (Elt Ideal) ℓ)

theorem codesV_eq (c : Dev nD) : codesV m c = val_main_v29 (F := Ideal) (a0 m c) := by
  rw [← pay8_eq, ← blk1_eq m c tZ]
  unfold codesV runAt0
  exact first_codes ..

theorem scalesV_eq (c : Dev nD) : scalesV m c = val_main_v52 (F := Ideal) (a0 m c) := by
  have h : scalesV m c = k0_pay9 (val_main_v14 (F := Ideal) (a0 m c)) := by
    rw [← blk1_eq m c tZ]
    unfold scalesV runAt0
    exact first_scales ..
  rw [h]
  suffices H : ∀ n : Fin 128, k0_pay9 (val_main_v14 (F := Ideal) (a0 m c)) (ix2 (0 : Fin 1) n) = val_main_v52 (F := Ideal) (a0 m c) (ix2 (0 : Fin 1) n) by
    funext y
    have e : (ix2 (0 : Fin 1) (y 1) : S1x128.Idx) = y := by
      funext a
      match a with
      | ⟨0, _⟩ => exact Subsingleton.elim (α := Fin 1) _ _
      | ⟨1, _⟩ => rfl
    have h := H (y 1)
    rw [e] at h
    exact h
  intro n
  rw [scale_read]
  exact pay9_read (a0 m c) n

theorem scV_read (c : Dev nD) (r l : Fin 128) : scV m c (ix2 r l) = val_main_v22 (F := Ideal) (a0 m c) (ix1 r) := by
  have h : scV m c = k0_pay555 (k0_pay7 (val_main_v14 (F := Ideal) (a0 m c))) := by
    rw [← blk1_eq m c tZ]
    unfold scV runAt0
    exact first_spread ..
  rw [h]
  exact pay555_read (a0 m c) r l

theorem xbV_eq (c : Dev nD) : xbV m c = XB (val_main_v29 (F := Ideal) (a0 m c)) := by
  rw [← pay8_eq, ← blk1_eq m c tZ]
  funext y
  refine View.canon_apply_of_pieces (XB (k0_pay8 (iblk m c 1 tZ))) (runAt0 m c).2.2.2.1 ?_ y (coverA10 m c y)
  unfold runAt0
  rw [first_xb]
  exact xb_pieces c _ _ _

/-! ## The product -/

theorem yV_eq (c : Dev nD) (t : Fin cfg0.N) : yV m c t
    = fun y => blockVal (iblk m c 0 t) (wordAt (a1 m c) t.val) (entryAt (a2 m c)) (xbV m c) (scV m c) (iblk m c 5 t) y := by
  funext y
  have hN : t.val < 14 := lt_of_lt_of_eq t.isLt (show cfg0.N = 14 from N_0)
  unfold yV
  by_cases h0 : t.val % 14 = 0
  · rw [dif_pos h0]
    obtain rfl : t = tZ := Fin.ext (show t.val = 0 by omega)
    refine View.canon_apply_of_pieces _ (runAt0 m c).1 ?_ y (coverA7 m c y)
    exact piecesA c (grid0.coords tZ) (ms0_0 tZ) (hs0_0 tZ) (ms0_1 tZ) (hs0_1 tZ) (ms0_2 tZ) (hs0_2 tZ) (ms0_3 tZ) (hs0_3 tZ) (ms0_4 tZ) (hs0_4 tZ) (ms0_5 tZ) (hs0_5 tZ) (ms0_6 tZ) (hs0_6 tZ) (ms0_7 tZ) (hs0_7 tZ) (ms0_8 tZ) (hs0_8 tZ) scM0_0 (Memref.isWhole_whole _) scM0_1 (Memref.isWhole_whole _)
      (iblk m c 0 tZ) (iblk m c 1 tZ) (iblk m c 2 tZ) (iblk m c 3 tZ) (iblk m c 4 tZ) (iblk m c 5 tZ) (wordAt (a1 m c) tZ.val) (entryAt (a2 m c))
      (blk2_read m c tZ) (blk3_read m c tZ) (blk4_read m c tZ) ((hcond0_0 tZ).mpr (Nat.zero_mod _)) (xbV m c) rfl (scV m c) rfl
  · rw [dif_neg h0]
    refine View.canon_apply_of_pieces _ (runAt m c t h0).1 ?_ y (coverB7 m c t h0 y)
    exact piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (codesV m c) (scalesV m c) (xbV m c) (scV m c) (wordAt (a1 m c) t.val) (entryAt (a2 m c))
      (blk2_read m c t) (blk3_read m c t) (blk4_read m c t) (fun h => h0 ((hcond0_0 t).mp h))

/-- One term of the reference's sums, by parity and pair. -/
def term (x0 : FVec Ideal S1x128x4096 .bf16) (x1 : IVec S2048x14336 8) (x2 : IVec S16x256x2 8) (x3 : FVec Ideal S16 .bf16)
    (r : Fin 128) (n : Fin 14336) (p j : ℕ) : EReal :=
  if h : j < 2048 ∧ p < 2 then code x0 r ⟨2 * j + p, by omega⟩ * weight x1 x2 x3 ⟨j, h.1⟩ n ⟨p, h.2⟩ else 0

theorem term_eq (x0 : FVec Ideal S1x128x4096 .bf16) (x1 : IVec S2048x14336 8) (x2 : IVec S16x256x2 8) (x3 : FVec Ideal S16 .bf16)
    (r : Fin 128) (n : Fin 14336) (p j : ℕ) (hj : j < 2048) (hp : p < 2) :
    term x0 x1 x2 x3 r n p j = code x0 r ⟨2 * j + p, by omega⟩ * weight x1 x2 x3 ⟨j, hj⟩ n ⟨p, hp⟩ := dif_pos ⟨hj, hp⟩

/-- A point's block of the product is the reference's at the block's columns. -/
theorem yV_read (c : Dev nD) (t : Fin cfg0.N) (r : Fin 128) (n : Fin 1024) (hn : 1024 * t.val + n.val < 14336) :
    yV m c t (ix2 r n) = val_main_v51 (F := Ideal) (a0 m c) (a1 m c) (a2 m c) (a3 m c) (a4 m c) (ix2 r (⟨1024 * t.val + n.val, hn⟩ : Fin 14336)) := by
  rw [yV_eq, result_read]
  show (∑ b : Fin 16, blockSum (iblk m c 0 t) (wordAt (a1 m c) t.val) (entryAt (a2 m c)) (xbV m c) r n.val b)
      * (show EReal from scV m c (ix2 r ⟨n.val % 128, Nat.mod_lt _ (by decide)⟩)) * (show EReal from iblk m c 5 t (ix2 (0 : Fin 1) n)) = _
  have hsc : (show EReal from scV m c (ix2 r ⟨n.val % 128, Nat.mod_lt _ (by decide)⟩)) = val_main_v22 (F := Ideal) (a0 m c) (ix1 r) := scV_read m c r _
  have hosc : (show EReal from iblk m c 5 t (ix2 (0 : Fin 1) n)) = a4 m c (ix1 (⟨1024 * t.val + n.val, hn⟩ : Fin 14336)) := blk5_read m c t n hn
  rw [hsc, hosc]
  refine congrArg (fun s : EReal => s * val_main_v22 (F := Ideal) (a0 m c) (ix1 r) * a4 m c (ix1 (⟨1024 * t.val + n.val, hn⟩ : Fin 14336))) ?_
  have hb : ∀ b : Fin 16, blockSum (iblk m c 0 t) (wordAt (a1 m c) t.val) (entryAt (a2 m c)) (xbV m c) r n.val b
      = ∑ k : Fin 256, term (a0 m c) (a1 m c) (a2 m c) (a3 m c) r ⟨1024 * t.val + n.val, hn⟩ (parOf k.val) (128 * b.val + rowOf k.val) := by
    intro b
    unfold blockSum
    refine Finset.sum_congr rfl fun k _ => ?_
    have hj : 128 * b.val + rowOf k.val < 2048 := by unfold rowOf; omega
    have hp : parOf k.val < 2 := by unfold parOf; omega
    have hq : (128 * b.val + rowOf k.val) / 128 = b.val := by unfold rowOf; omega
    rw [term_eq _ _ _ _ _ _ _ _ hj hp]
    have hx : (show EReal from xbV m c (ix3 b r k)) = code (a0 m c) r ⟨2 * (128 * b.val + rowOf k.val) + parOf k.val, by omega⟩ := by
      rw [xbV_eq]; exact XB_apply _ b r k
    have h0 : (show EReal from iblk m c 0 t (ix2 (0 : Fin 1) b)) = a3 m c (ix1 b) := blk0_read m c t b
    rw [hx, h0]
    refine congrArg (fun s : EReal => code (a0 m c) r ⟨2 * (128 * b.val + rowOf k.val) + parOf k.val, by omega⟩ * s) ?_
    rw [wordAt_eq (a1 m c) t.val (128 * b.val + rowOf k.val) n.val hj hn]
    unfold weight
    rw [entryAt_eq (a2 m c) b.val (parOf k.val) _ b.isLt (BitVec.isLt _) hp]
    have hbb : (⟨(128 * b.val + rowOf k.val) / 128, by omega⟩ : Fin 16) = b := Fin.ext hq
    rw [hbb]
    rfl
  rw [Finset.sum_congr rfl fun b _ => hb b, regroup (term (a0 m c) (a1 m c) (a2 m c) (a3 m c) r ⟨1024 * t.val + n.val, hn⟩)]
  refine congrArg₂ (fun s u : EReal => s + u) (Finset.sum_congr rfl fun j _ => ?_) (Finset.sum_congr rfl fun j _ => ?_)
  · exact term_eq _ _ _ _ _ _ 0 j.val j.isLt (by decide)
  · exact term_eq _ _ _ _ _ _ 1 j.val j.isLt (by decide)

end Cert.KernelIdeal.Gen

end
-- ==== Proof.Result.lean ====
/- The arrays the kernel leaves are the reference's results. -/
module

public import proofs.«01_k».proof.Proof.Values

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL.Sem
open Cert.ReferenceIdeal.Read (val_main_v29 val_main_v51 val_main_v52)

variable (m : (ℓ : Loc nD τ sig) → Buf (Elt Ideal) ℓ) (ρ : Dev nD → PrngReg)

/-- The product, -/
abbrev product (c : Dev nD) : FVec Ideal S128x14336 .bf16 := val_main_v51 (F := Ideal) (a0 m c) (a1 m c) (a2 m c) (a3 m c) (a4 m c)
/-- the codes, -/
abbrev codes (c : Dev nD) : IVec S128x4096 8 := val_main_v29 (F := Ideal) (a0 m c)
/-- and the scales of the reference. -/
abbrev scales (c : Dev nD) : FVec Ideal S1x128 .f32 := val_main_v52 (F := Ideal) (a0 m c)

/-- Where an entry of a point's block of the product lies. -/
theorem emb6 (t : Fin cfg0.N) (j : S128x1024.Idx) (hn : 1024 * t.val + (j 1).val < 14336) :
    ((cfg0.win 6).blk t).view.emb j = (ix2 (j 0) (⟨1024 * t.val + (j 1).val, hn⟩ : Fin 14336) : S128x14336.Idx) := by
  funext a; apply Fin.ext
  match a with
  | ⟨0, _⟩ => show win0_6.index t (0 : Fin 2) * 128 + 1 * (j 0).val = (j 0).val; rw [show win0_6.index t (0 : Fin 2) = 0 from rfl]; omega
  | ⟨1, _⟩ => show win0_6.index t (1 : Fin 2) * 1024 + 1 * (j 1).val = 1024 * t.val + (j 1).val; rw [(index_col t).2.2]; omega

theorem emb7 (t : Fin cfg0.N) (j : S128x4096.Idx) : ((cfg0.win 7).blk t).view.emb j = j := by
  funext a; apply Fin.ext
  match a with
  | ⟨0, _⟩ => show 0 * 128 + 1 * (j 0).val = (j 0).val; omega
  | ⟨1, _⟩ => show 0 * 4096 + 1 * (j 1).val = (j 1).val; omega

theorem emb8 (t : Fin cfg0.N) (j : S1x128.Idx) : ((cfg0.win 8).blk t).view.emb j = j := by
  funext a; apply Fin.ext
  match a with
  | ⟨0, _⟩ => show 0 * 1 + 1 * (j 0).val = (j 0).val; omega
  | ⟨1, _⟩ => show 0 * 128 + 1 * (j 1).val = (j 1).val; omega

/-- What a point writes back of the product is the reference's block. -/
theorem flushed6_eq (c : Dev nD) (t : Fin cfg0.N) :
    (dats m 0 c).flushed 6 t = ((cfg0.win 6).blk t).view.read (Elt Ideal) (product m c) := by
  show (cfg0.win 6).cut (grid0.coords t) ((dats m 0 c).after 6 t) = _
  rw [after0_6]
  have hN : t.val < 14 := lt_of_lt_of_eq t.isLt (show cfg0.N = 14 from N_0)
  suffices H : ∀ j : S128x1024.Idx, yV m c t j = product m c (((cfg0.win 6).blk t).view.emb j) from funext H
  intro j
  have h1 : (j 1).val < 1024 := (j 1).isLt
  have hn : 1024 * t.val + (j 1).val < 14336 := by omega
  rw [emb6 t j hn]
  have h := yV_read m c t (j 0) (j 1) hn
  rw [show (ix2 (j 0) (j 1) : S128x1024.Idx) = j from (eq_ix2 j).symm] at h
  exact h

/-- A buffer written back whole is the whole array. -/
theorem cut7_eq (t : Fin cfg0.N) (X : IVec S128x4096 8) : (cfg0.win 7).cut (grid0.coords t) X = ((cfg0.win 7).blk t).view.read (Elt Ideal) X := by
  funext j
  show X j = X (((cfg0.win 7).blk t).view.emb j)
  rw [emb7]

theorem flushed7_eq (c : Dev nD) (t : Fin cfg0.N) :
    (dats m 0 c).flushed 7 t = ((cfg0.win 7).blk t).view.read (Elt Ideal) (codes m c) := by
  show (cfg0.win 7).cut (grid0.coords t) ((dats m 0 c).after 7 t) = _
  rw [after0_7, codesV_eq]
  exact cut7_eq t _

/-- A buffer written back whole is the whole array. -/
theorem cut8_eq (t : Fin cfg0.N) (X : FVec Ideal S1x128 .f32) : (cfg0.win 8).cut (grid0.coords t) X = ((cfg0.win 8).blk t).view.read (Elt Ideal) X := by
  funext j
  show X j = X (((cfg0.win 8).blk t).view.emb j)
  rw [emb8]

theorem flushed8_eq (c : Dev nD) (t : Fin cfg0.N) :
    (dats m 0 c).flushed 8 t = ((cfg0.win 8).blk t).view.read (Elt Ideal) (scales m c) := by
  show (cfg0.win 8).cut (grid0.coords t) ((dats m 0 c).after 8 t) = _
  rw [after0_8, scalesV_eq]
  exact cut8_eq t _

/-- The block a column is in. -/
theorem column_block (n : ℕ) (hn : n < 14336) : ∃ t : Fin cfg0.N, t.val = n / 1024 := by
  refine ⟨⟨n / 1024, ?_⟩, rfl⟩
  rw [show cfg0.N = 14 from N_0]
  omega

/-- The blocks of the product cover it. -/
theorem covered6 (i : S128x14336.Idx) : ∃ t : Fin cfg0.N, (cfg0.win 6).flush t = true ∧ i ∈ ((cfg0.win 6).blk t).view.set := by
  suffices H : ∀ (r : Fin 128) (n : Fin 14336), ∃ t : Fin cfg0.N, (cfg0.win 6).flush t = true ∧ (ix2 r n : S128x14336.Idx) ∈ ((cfg0.win 6).blk t).view.set by
    have h := H (i 0) (i 1)
    rw [show (ix2 (i 0) (i 1) : S128x14336.Idx) = i from (eq_ix2 i).symm] at h
    exact h
  intro r n
  obtain ⟨t, ht⟩ := column_block n.val n.isLt
  have hl : n.val % 1024 < 1024 := Nat.mod_lt _ (by decide)
  have hd : 1024 * t.val + n.val % 1024 = n.val := by rw [ht]; exact Nat.div_add_mod _ _
  refine ⟨t, flush0_6 t, ?_⟩
  have h := ((cfg0.win 6).blk t).view.emb_mem_set (ix2 r (⟨n.val % 1024, hl⟩ : Fin 1024) : S128x1024.Idx)
  have e : ((cfg0.win 6).blk t).view.emb (ix2 r (⟨n.val % 1024, hl⟩ : Fin 1024) : S128x1024.Idx) = (ix2 r n : S128x14336.Idx) :=
    (emb6 t (ix2 r (⟨n.val % 1024, hl⟩ : Fin 1024) : S128x1024.Idx) (lt_of_eq_of_lt hd n.isLt)).trans
      (congrArg (fun q : Fin 14336 => (ix2 r q : S128x14336.Idx)) (Fin.ext hd))
  rw [e] at h
  exact h

/-- The last grid point. -/
def tL : Fin cfg0.N := ⟨13, by rw [show cfg0.N = 14 from N_0]; decide⟩

theorem covered7 (i : S128x4096.Idx) : ∃ t : Fin cfg0.N, (cfg0.win 7).flush t = true ∧ i ∈ ((cfg0.win 7).blk t).view.set :=
  ⟨tL, (flush0_7 tL).mpr rfl, by have h := ((cfg0.win 7).blk tL).view.emb_mem_set i; rwa [emb7] at h⟩

theorem covered8 (i : S1x128.Idx) : ∃ t : Fin cfg0.N, (cfg0.win 8).flush t = true ∧ i ∈ ((cfg0.win 8).blk t).view.set :=
  ⟨tL, (flush0_8 tL).mpr rfl, by have h := ((cfg0.win 8).blk tL).view.emb_mem_set i; rwa [emb8] at h⟩

theorem final6 (c : Dev nD) : (dats m 0 c).arrAt 6 cfg0.N = product m c :=
  (dats m 0 c).arrAt_eq_of_cover 6 (product m c) (fun t _ => flushed6_eq m c t) covered6
theorem final7 (c : Dev nD) : (dats m 0 c).arrAt 7 cfg0.N = codes m c :=
  (dats m 0 c).arrAt_eq_of_cover 7 (codes m c) (fun t _ => flushed7_eq m c t) covered7
theorem final8 (c : Dev nD) : (dats m 0 c).arrAt 8 cfg0.N = scales m c :=
  (dats m 0 c).arrAt_eq_of_cover 8 (scales m c) (fun t _ => flushed8_eq m c t) covered8

/-- The run, read: the three results are the reference's, the arguments unchanged. -/
theorem run_value : θ_run defs (onTc (τ := τ) (main (F := Ideal))) ⟨m, fun _ => 0, ρ⟩ (fun r => ∀ c : Dev nD,
      r.2.mem ((c.tc : Thread nD τ).loc main_v10_0) = product m c
      ∧ r.2.mem ((c.tc : Thread nD τ).loc main_v10_1) = codes m c
      ∧ r.2.mem ((c.tc : Thread nD τ).loc main_v10_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (final6 m c), ((h.1 c).1 7).trans (final7 m c), ((h.1 c).1 8).trans (final8 m c), h.2.1 c⟩)
    (θ_run_and (run_main m ρ) (frame m ρ))

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Bits.Frame
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference is a host program without a semaphore; its generated run leaves the arguments as they were. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's run ends at the reference's three results of its own arguments (`Cert.KernelIdeal.Gen.run_value`), and the
    reference's at the same of arguments that agree. -/
theorem algebraic : Cert.algebraic_KernelIdeal_ReferenceIdeal := by
  intro m ρ m' ρ' _ hag
  refine ⟨fun c => Cert.KernelIdeal.Gen.product m c, fun c => Cert.KernelIdeal.Gen.codes m c, fun c => Cert.KernelIdeal.Gen.scales m c,
    Cert.KernelIdeal.Gen.run_value m ρ, ?_⟩
  refine (θ_run Cert.ReferenceIdeal.defs _ _).mono (fun r h c => ?_) (Cert.ReferenceIdeal.Value.run (F := Ideal) m' ρ')
  obtain ⟨h0, h1, h2, h3, h4⟩ := hag c
  refine ⟨(h c).1.trans ?_, (h c).2.1.trans ?_, (h c).2.2.1.trans ?_, (h c).2.2.2⟩
  · rw [Cert.ReferenceIdeal.Read.val_main_v51_eq, h0, h1, h2, h3, h4]
  · rw [Cert.ReferenceIdeal.Read.val_main_v29_eq, h0]
  · rw [Cert.ReferenceIdeal.Read.val_main_v52_eq, h0]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, algebraic⟩

end Cert.Proof

end
